-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shift_and_scale_finite [hPre_shift_and_scale_finite : Cert.Pre_shift_and_scale_finite.Facts] (m : (ℓ : Loc Cert.KernelIdeal.nD Cert.KernelIdeal.τ Cert.KernelIdeal.sig) → Buf (Elt Ideal) ℓ) : Prop :=
  ∀ c : Dev Cert.KernelIdeal.nD,
    (Cert.Pre_shift_and_scale_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shift_and_scale_finite [hPre_shift_and_scale_finite : Cert.Pre_shift_and_scale_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shift_and_scale_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_shift_and_scale_finite [hKernelIdeal : Cert.KernelIdeal.Facts] [hPre_shift_and_scale_finite : Cert.Pre_shift_and_scale_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shift_and_scale_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_shift_and_scale_finite [hReferenceIdeal : Cert.ReferenceIdeal.Facts] [hPre_shift_and_scale_finite : Cert.Pre_shift_and_scale_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shift_and_scale_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_shift_and_scale_finite [hKernelIdeal : Cert.KernelIdeal.Facts] [hReferenceIdeal : Cert.ReferenceIdeal.Facts] [hPre_shift_and_scale_finite : Cert.Pre_shift_and_scale_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shift_and_scale_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_shift_and_scale_finite : Cert.Pre_shift_and_scale_finite.Facts),
    quiescent_Kernel (hKernel := hKernel)
    ∧ quiescent_KernelIdeal (hKernelIdeal := hKernelIdeal)
    ∧ quiescent_KernelIdeal_pre_shift_and_scale_finite (hKernelIdeal := hKernelIdeal) (hPre_shift_and_scale_finite := hPre_shift_and_scale_finite)
    ∧ quiescent_ReferenceIdeal (hReferenceIdeal := hReferenceIdeal)
    ∧ quiescent_ReferenceIdeal_pre_shift_and_scale_finite (hReferenceIdeal := hReferenceIdeal) (hPre_shift_and_scale_finite := hPre_shift_and_scale_finite)
    ∧ preserves_Kernel_KernelIdeal
    ∧ algebraic_KernelIdeal_ReferenceIdeal_pre_shift_and_scale_finite (hKernelIdeal := hKernelIdeal) (hReferenceIdeal := hReferenceIdeal) (hPre_shift_and_scale_finite := hPre_shift_and_scale_finite)
-- ==== Pre_shift_and_scale_finite.lean ====
abbrev S2x96x512x512 : Shape := ⟨4, ![2, 96, 512, 512]⟩
abbrev S24x96x3x3 : Shape := ⟨4, ![24, 96, 3, 3]⟩
abbrev S24 : Shape := ⟨1, ![24]⟩
abbrev S1x24x1x1 : Shape := ⟨4, ![1, 24, 1, 1]⟩
abbrev S1 : Shape := ⟨1, ![1]⟩
abbrev S_ : Shape := ⟨0, ![]⟩

class Facts : Prop where
  bcast_S_S24 : S_.BroadcastsInDim S24 (![] : Fin 0 → Fin S24.rank)

variable [Facts]

def fn {F : FTy → Type} [FloatOps F] (main_arg0 : FVec F S2x96x512x512 .f32) (main_arg1 : FVec F S24x96x3x3 .f32) (main_arg2 : FVec F S24 .f32) (main_arg3 : FVec F S24 .f32) (main_arg4 : FVec F S24 .f32) (main_arg5 : FVec F S1x24x1x1 .f32) (main_arg6 : FVec F S1 .f32) : IVec S24 1 :=
  let main_v0 : FVec F S24 .f32 := Host.absf main_arg2
  let main_cst : FVec F S_ .f32 := constant S_ .f32 0x7F800000#32
  let main_v1 : FVec F S24 .f32 := broadcastInDim S24 ![] bcast_S_S24 main_cst
  let main_v2 : IVec S24 1 := cmpf .olt main_v0 main_v1
  let main_v3 : FVec F S24 .f32 := Host.absf main_arg3
  let main_cst_0 : FVec F S_ .f32 := constant S_ .f32 0x7F800000#32
  let main_v4 : FVec F S24 .f32 := broadcastInDim S24 ![] bcast_S_S24 main_cst_0
  let main_v5 : IVec S24 1 := cmpf .olt main_v3 main_v4
  let main_v6 : IVec S24 1 := andi main_v2 main_v5
  main_v6
-- ==== Kernel.lean ====
abbrev S2x96x512x512 : Shape := ⟨4, ![2, 96, 512, 512]⟩
abbrev S24x96x3x3 : Shape := ⟨4, ![24, 96, 3, 3]⟩
abbrev S24 : Shape := ⟨1, ![24]⟩
abbrev S1x24x1x1 : Shape := ⟨4, ![1, 24, 1, 1]⟩
abbrev S1 : Shape := ⟨1, ![1]⟩
abbrev S2x96x262144 : Shape := ⟨3, ![2, 96, 262144]⟩
abbrev S3x3x24x96 : Shape := ⟨4, ![3, 3, 24, 96]⟩
abbrev S216x96 : Shape := ⟨2, ![216, 96]⟩
abbrev S2x24x262144 : Shape := ⟨3, ![2, 24, 262144]⟩
abbrev S2x16x8x24 : Shape := ⟨4, ![2, 16, 8, 24]⟩
abbrev S1x96x512 : Shape := ⟨3, ![1, 96, 512]⟩
abbrev S1x96x16384 : Shape := ⟨3, ![1, 96, 16384]⟩
abbrev S1x24x16384 : Shape := ⟨3, ![1, 24, 16384]⟩
abbrev S1x1x8x24 : Shape := ⟨4, ![1, 1, 8, 24]⟩
abbrev S96x512 : Shape := ⟨2, ![96, 512]⟩
abbrev S96x16384 : Shape := ⟨2, ![96, 16384]⟩
abbrev S96x17408 : Shape := ⟨2, ![96, 17408]⟩
abbrev S216x17408 : Shape := ⟨2, ![216, 17408]⟩
abbrev S24x16384 : Shape := ⟨2, ![24, 16384]⟩
abbrev S24x1 : Shape := ⟨2, ![24, 1]⟩
abbrev S24x16383 : Shape := ⟨2, ![24, 16383]⟩
abbrev S1x24 : Shape := ⟨2, ![1, 24]⟩
abbrev S6x24 : Shape := ⟨2, ![6, 24]⟩
abbrev S8x24 : Shape := ⟨2, ![8, 24]⟩
abbrev S2x16x1x24 : Shape := ⟨4, ![2, 16, 1, 24]⟩
abbrev S2x16x24 : Shape := ⟨3, ![2, 16, 24]⟩
abbrev S_ : Shape := ⟨0, ![]⟩
abbrev S1x1 : Shape := ⟨2, ![1, 1]⟩
abbrev S2x1x262144 : Shape := ⟨3, ![2, 1, 262144]⟩
abbrev S2x4x1x16 : Shape := ⟨4, ![2, 4, 1, 16]⟩
abbrev S1x24x65536 : Shape := ⟨3, ![1, 24, 65536]⟩
abbrev S1x1x65536 : Shape := ⟨3, ![1, 1, 65536]⟩
abbrev S1x1x1x16 : Shape := ⟨4, ![1, 1, 1, 16]⟩
abbrev S24x65536 : Shape := ⟨2, ![24, 65536]⟩
abbrev S65536 : Shape := ⟨1, ![65536]⟩
abbrev S1x65536 : Shape := ⟨2, ![1, 65536]⟩
abbrev S8x8192 : Shape := ⟨2, ![8, 8192]⟩
abbrev S1x16 : Shape := ⟨2, ![1, 16]⟩
abbrev S1x8x8192 : Shape := ⟨3, ![1, 8, 8192]⟩
abbrev S1x1x1 : Shape := ⟨3, ![1, 1, 1]⟩
abbrev S16 : Shape := ⟨1, ![16]⟩
abbrev S2x1x64 : Shape := ⟨3, ![2, 1, 64]⟩
abbrev S2x8x128 : Shape := ⟨3, ![2, 8, 128]⟩
abbrev S1x1x64 : Shape := ⟨3, ![1, 1, 64]⟩
abbrev S1x8x128 : Shape := ⟨3, ![1, 8, 128]⟩
abbrev S1x64 : Shape := ⟨2, ![1, 64]⟩
abbrev S8x128 : Shape := ⟨2, ![8, 128]⟩
abbrev S2x1x16 : Shape := ⟨3, ![2, 1, 16]⟩
abbrev S2x16 : Shape := ⟨2, ![2, 16]⟩
abbrev S2x16x1 : Shape := ⟨3, ![2, 16, 1]⟩
abbrev S2x16x2 : Shape := ⟨3, ![2, 16, 2]⟩
abbrev S2x1x512x512 : Shape := ⟨4, ![2, 1, 512, 512]⟩

abbrev nBuf : Space → Nat
  | .hbm => 53
  | .vmem => 29
  | .smem => 0
  | _ => 0

abbrev bufTy : (tb : Table) → Fin (tcTables nBuf tb) → BufTy
  | .hbm, ⟨0, _⟩ => ⟨S2x96x512x512, .f32⟩
  | .hbm, ⟨1, _⟩ => ⟨S24x96x3x3, .f32⟩
  | .hbm, ⟨2, _⟩ => ⟨S24, .f32⟩
  | .hbm, ⟨3, _⟩ => ⟨S24, .f32⟩
  | .hbm, ⟨4, _⟩ => ⟨S24, .f32⟩
  | .hbm, ⟨5, _⟩ => ⟨S1x24x1x1, .f32⟩
  | .hbm, ⟨6, _⟩ => ⟨S1, .f32⟩
  | .hbm, ⟨7, _⟩ => ⟨S2x96x262144, .f32⟩
  | .hbm, ⟨8, _⟩ => ⟨S3x3x24x96, .f32⟩
  | .hbm, ⟨9, _⟩ => ⟨S216x96, .f32⟩
  | .hbm, ⟨10, _⟩ => ⟨S2x24x262144, .f32⟩
  | .hbm, ⟨11, _⟩ => ⟨S2x16x8x24, .f32⟩
  | .hbm, ⟨12, _⟩ => ⟨S2x16x1x24, .f32⟩
  | .hbm, ⟨13, _⟩ => ⟨S2x16x24, .f32⟩
  | .hbm, ⟨14, _⟩ => ⟨S_, .f32⟩
  | .hbm, ⟨15, _⟩ => ⟨S24, .f32⟩
  | .hbm, ⟨16, _⟩ => ⟨S2x16x1x24, .f32⟩
  | .hbm, ⟨17, _⟩ => ⟨S2x16x24, .f32⟩
  | .hbm, ⟨18, _⟩ => ⟨S_, .f32⟩
  | .hbm, ⟨19, _⟩ => ⟨S24, .f32⟩
  | .hbm, ⟨20, _⟩ => ⟨S_, .f32⟩
  | .hbm, ⟨21, _⟩ => ⟨S24, .f32⟩
  | .hbm, ⟨22, _⟩ => ⟨S24, .f32⟩
  | .hbm, ⟨23, _⟩ => ⟨S_, .f32⟩
  | .hbm, ⟨24, _⟩ => ⟨S24, .f32⟩
  | .hbm, ⟨25, _⟩ => ⟨S24, .f32⟩
  | .hbm, ⟨26, _⟩ => ⟨S24, .f32⟩
  | .hbm, ⟨27, _⟩ => ⟨S24, .f32⟩
  | .hbm, ⟨28, _⟩ => ⟨S_, .f32⟩
  | .hbm, ⟨29, _⟩ => ⟨S24, .f32⟩
  | .hbm, ⟨30, _⟩ => ⟨S24, .f32⟩
  | .hbm, ⟨31, _⟩ => ⟨S24, .f32⟩
  | .hbm, ⟨32, _⟩ => ⟨S24, .f32⟩
  | .hbm, ⟨33, _⟩ => ⟨S24, .f32⟩
  | .hbm, ⟨34, _⟩ => ⟨S24, .f32⟩
  | .hbm, ⟨35, _⟩ => ⟨S24x1, .f32⟩
  | .hbm, ⟨36, _⟩ => ⟨S24x1, .f32⟩
  | .hbm, ⟨37, _⟩ => ⟨S24x1, .f32⟩
  | .hbm, ⟨38, _⟩ => ⟨S1x1, .f32⟩
  | .hbm, ⟨39, _⟩ => ⟨S2x1x262144, .f32⟩
  | .hbm, ⟨40, _⟩ => ⟨S2x4x1x16, .f32⟩
  | .hbm, ⟨41, _⟩ => ⟨S2x4x1x16, .i32⟩
  | .hbm, ⟨42, _⟩ => ⟨S2x1x64, .f32⟩
  | .hbm, ⟨43, _⟩ => ⟨S2x1x64, .i32⟩
  | .hbm, ⟨44, _⟩ => ⟨S2x8x128, .f32⟩
  | .hbm, ⟨45, _⟩ => ⟨S2x1x16, .f32⟩
  | .hbm, ⟨46, _⟩ => ⟨S2x16, .f32⟩
  | .hbm, ⟨47, _⟩ => ⟨S2x1x16, .f32⟩
  | .hbm, ⟨48, _⟩ => ⟨S2x16, .f32⟩
  | .hbm, ⟨49, _⟩ => ⟨S2x16x1, .f32⟩
  | .hbm, ⟨50, _⟩ => ⟨S2x16x1, .f32⟩
  | .hbm, ⟨51, _⟩ => ⟨S2x16x2, .f32⟩
  | .hbm, ⟨52, _⟩ => ⟨S2x1x512x512, .f32⟩
  | .local _ .vmem, ⟨0, _⟩ => ⟨S216x96, .f32⟩
  | .local _ .vmem, ⟨1, _⟩ => ⟨S1x96x512, .f32⟩
  | .local _ .vmem, ⟨2, _⟩ => ⟨S1x96x512, .f32⟩
  | .local _ .vmem, ⟨3, _⟩ => ⟨S1x96x16384, .f32⟩
  | .local _ .vmem, ⟨4, _⟩ => ⟨S1x96x16384, .f32⟩
  | .local _ .vmem, ⟨5, _⟩ => ⟨S1x96x512, .f32⟩
  | .local _ .vmem, ⟨6, _⟩ => ⟨S1x96x512, .f32⟩
  | .local _ .vmem, ⟨7, _⟩ => ⟨S1x24x16384, .f32⟩
  | .local _ .vmem, ⟨8, _⟩ => ⟨S1x24x16384, .f32⟩
  | .local _ .vmem, ⟨9, _⟩ => ⟨S1x1x8x24, .f32⟩
  | .local _ .vmem, ⟨10, _⟩ => ⟨S1x1x8x24, .f32⟩
  | .local _ .vmem, ⟨11, _⟩ => ⟨S1x24x65536, .f32⟩
  | .local _ .vmem, ⟨12, _⟩ => ⟨S1x24x65536, .f32⟩
  | .local _ .vmem, ⟨13, _⟩ => ⟨S24x1, .f32⟩
  | .local _ .vmem, ⟨14, _⟩ => ⟨S24x1, .f32⟩
  | .local _ .vmem, ⟨15, _⟩ => ⟨S24x1, .f32⟩
  | .local _ .vmem, ⟨16, _⟩ => ⟨S1x1, .f32⟩
  | .local _ .vmem, ⟨17, _⟩ => ⟨S1x1x65536, .f32⟩
  | .local _ .vmem, ⟨18, _⟩ => ⟨S1x1x65536, .f32⟩
  | .local _ .vmem, ⟨19, _⟩ => ⟨S1x1x1x16, .f32⟩
  | .local _ .vmem, ⟨20, _⟩ => ⟨S1x1x1x16, .f32⟩
  | .local _ .vmem, ⟨21, _⟩ => ⟨S1x1x1x16, .i32⟩
  | .local _ .vmem, ⟨22, _⟩ => ⟨S1x1x1x16, .i32⟩
  | .local _ .vmem, ⟨23, _⟩ => ⟨S1x1x64, .f32⟩
  | .local _ .vmem, ⟨24, _⟩ => ⟨S1x1x64, .f32⟩
  | .local _ .vmem, ⟨25, _⟩ => ⟨S1x1x64, .i32⟩
  | .local _ .vmem, ⟨26, _⟩ => ⟨S1x1x64, .i32⟩
  | .local _ .vmem, ⟨27, _⟩ => ⟨S1x8x128, .f32⟩
  | .local _ .vmem, ⟨28, _⟩ => ⟨S1x8x128, .f32⟩
  | _, _ => ⟨S2x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c32_i32_0 : BitVec 32 := 32#32
  let v1 : BitVec 32 := Scalar.addi v0 c32_i32_0
  let c511_i32 : BitVec 32 := 511#32
  let v2 : BitVec 32 := Scalar.minsi v1 c511_i32
  let c0_i32 : BitVec 32 := 0#32
  let c0_i32_1 : BitVec 32 := 0#32
  ![arg0.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S216x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x24x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x24x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S24x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S24x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S24x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x65536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x1x16 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S2x96x512x512 : Shape := ⟨4, ![2, 96, 512, 512]⟩
abbrev S24x96x3x3 : Shape := ⟨4, ![24, 96, 3, 3]⟩
abbrev S24 : Shape := ⟨1, ![24]⟩
abbrev S1x24x1x1 : Shape := ⟨4, ![1, 24, 1, 1]⟩
abbrev S1 : Shape := ⟨1, ![1]⟩
abbrev S_ : Shape := ⟨0, ![]⟩
abbrev S2x96x514x514 : Shape := ⟨4, ![2, 96, 514, 514]⟩
abbrev S24x96x1x1 : Shape := ⟨4, ![24, 96, 1, 1]⟩
abbrev S24x96 : Shape := ⟨2, ![24, 96]⟩
abbrev S2x512x512x24 : Shape := ⟨4, ![2, 512, 512, 24]⟩
abbrev S2x24x512x512 : Shape := ⟨4, ![2, 24, 512, 512]⟩
abbrev S1x24 : Shape := ⟨2, ![1, 24]⟩
abbrev S2x512x512x1 : Shape := ⟨4, ![2, 512, 512, 1]⟩
abbrev S2x1x512x512 : Shape := ⟨4, ![2, 1, 512, 512]⟩
abbrev S1x1x1x1 : Shape := ⟨4, ![1, 1, 1, 1]⟩
abbrev S2x262144 : Shape := ⟨2, ![2, 262144]⟩
abbrev S2x16 : Shape := ⟨2, ![2, 16]⟩
abbrev S2x16x1 : Shape := ⟨3, ![2, 16, 1]⟩
abbrev S2x16x2 : Shape := ⟨3, ![2, 16, 2]⟩

abbrev nBuf : Space → Nat
  | .hbm => 174
  | .vmem => 0
  | .smem => 0
  | _ => 0

abbrev hbmTy0_0 (i : Nat) : BufTy := match i % 128 with
  | 0 => ⟨S2x96x512x512, .f32⟩
  | 1 => ⟨S24x96x3x3, .f32⟩
  | 2 => ⟨S24, .f32⟩
  | 3 => ⟨S24, .f32⟩
  | 4 => ⟨S24, .f32⟩
  | 5 => ⟨S1x24x1x1, .f32⟩
  | 6 => ⟨S1, .f32⟩
  | 7 => ⟨S_, .i32⟩
  | 8 => ⟨S_, .f32⟩
  | 9 => ⟨S2x96x514x514, .f32⟩
  | 10 => ⟨S24x96x1x1, .f32⟩
  | 11 => ⟨S24x96, .f32⟩
  | 12 => ⟨S2x96x512x512, .f32⟩
  | 13 => ⟨S2x512x512x24, .f32⟩
  | 14 => ⟨S2x24x512x512, .f32⟩
  | 15 => ⟨S24x96x1x1, .f32⟩
  | 16 => ⟨S24x96, .f32⟩
  | 17 => ⟨S2x96x512x512, .f32⟩
  | 18 => ⟨S2x512x512x24, .f32⟩
  | 19 => ⟨S2x24x512x512, .f32⟩
  | 20 => ⟨S2x24x512x512, .f32⟩
  | 21 => ⟨S24x96x1x1, .f32⟩
  | 22 => ⟨S24x96, .f32⟩
  | 23 => ⟨S2x96x512x512, .f32⟩
  | 24 => ⟨S2x512x512x24, .f32⟩
  | 25 => ⟨S2x24x512x512, .f32⟩
  | 26 => ⟨S2x24x512x512, .f32⟩
  | 27 => ⟨S24x96x1x1, .f32⟩
  | 28 => ⟨S24x96, .f32⟩
  | 29 => ⟨S2x96x512x512, .f32⟩
  | 30 => ⟨S2x512x512x24, .f32⟩
  | 31 => ⟨S2x24x512x512, .f32⟩
  | 32 => ⟨S2x24x512x512, .f32⟩
  | 33 => ⟨S24x96x1x1, .f32⟩
  | 34 => ⟨S24x96, .f32⟩
  | 35 => ⟨S2x96x512x512, .f32⟩
  | 36 => ⟨S2x512x512x24, .f32⟩
  | 37 => ⟨S2x24x512x512, .f32⟩
  | 38 => ⟨S2x24x512x512, .f32⟩
  | 39 => ⟨S24x96x1x1, .f32⟩
  | 40 => ⟨S24x96, .f32⟩
  | 41 => ⟨S2x96x512x512, .f32⟩
  | 42 => ⟨S2x512x512x24, .f32⟩
  | 43 => ⟨S2x24x512x512, .f32⟩
  | 44 => ⟨S2x24x512x512, .f32⟩
  | 45 => ⟨S24x96x1x1, .f32⟩
  | 46 => ⟨S24x96, .f32⟩
  | 47 => ⟨S2x96x512x512, .f32⟩
  | 48 => ⟨S2x512x512x24, .f32⟩
  | 49 => ⟨S2x24x512x512, .f32⟩
  | 50 => ⟨S2x24x512x512, .f32⟩
  | 51 => ⟨S24x96x1x1, .f32⟩
  | 52 => ⟨S24x96, .f32⟩
  | 53 => ⟨S2x96x512x512, .f32⟩
  | 54 => ⟨S2x512x512x24, .f32⟩
  | 55 => ⟨S2x24x512x512, .f32⟩
  | 56 => ⟨S2x24x512x512, .f32⟩
  | 57 => ⟨S24x96x1x1, .f32⟩
  | 58 => ⟨S24x96, .f32⟩
  | 59 => ⟨S2x96x512x512, .f32⟩
  | 60 => ⟨S2x512x512x24, .f32⟩
  | 61 => ⟨S2x24x512x512, .f32⟩
  | 62 => ⟨S2x24x512x512, .f32⟩
  | 63 => ⟨S1x24x1x1, .f32⟩
  | 64 => ⟨S2x24x512x512, .f32⟩
  | 65 => ⟨S2x24x512x512, .f32⟩
  | 66 => ⟨S_, .f32⟩
  | 67 => ⟨S24, .f32⟩
  | 68 => ⟨S1x24x1x1, .f32⟩
  | 69 => ⟨S_, .f32⟩
  | 70 => ⟨S1x24x1x1, .f32⟩
  | 71 => ⟨S1x24x1x1, .f32⟩
  | 72 => ⟨S_, .i32⟩
  | 73 => ⟨S_, .f32⟩
  | 74 => ⟨S24, .f32⟩
  | 75 => ⟨S1x24x1x1, .f32⟩
  | 76 => ⟨S_, .f32⟩
  | 77 => ⟨S1x24x1x1, .f32⟩
  | 78 => ⟨S1x24x1x1, .f32⟩
  | 79 => ⟨S2x24x512x512, .f32⟩
  | 80 => ⟨S2x24x512x512, .f32⟩
  | 81 => ⟨S2x24x512x512, .f32⟩
  | 82 => ⟨S_, .f32⟩
  | 83 => ⟨S_, .f32⟩
  | 84 => ⟨S_, .f32⟩
  | 85 => ⟨S_, .f32⟩
  | 86 => ⟨S24, .f32⟩
  | 87 => ⟨S1x24x1x1, .f32⟩
  | 88 => ⟨S1x24x1x1, .f32⟩
  | 89 => ⟨S1x24x1x1, .f32⟩
  | 90 => ⟨S_, .f32⟩
  | 91 => ⟨S_, .i1⟩
  | 92 => ⟨S_, .f32⟩
  | 93 => ⟨S_, .f32⟩
  | 94 => ⟨S1x24x1x1, .f32⟩
  | 95 => ⟨S1x24x1x1, .f32⟩
  | 96 => ⟨S2x24x512x512, .f32⟩
  | 97 => ⟨S2x24x512x512, .f32⟩
  | 98 => ⟨S_, .f32⟩
  | 99 => ⟨S1x24x1x1, .f32⟩
  | 100 => ⟨S1x24x1x1, .f32⟩
  | 101 => ⟨S1x24x1x1, .f32⟩
  | 102 => ⟨S2x24x512x512, .f32⟩
  | 103 => ⟨S2x24x512x512, .f32⟩
  | 104 => ⟨S1x24x1x1, .f32⟩
  | 105 => ⟨S2x24x512x512, .f32⟩
  | 106 => ⟨S2x24x512x512, .f32⟩
  | 107 => ⟨S1x24x1x1, .f32⟩
  | 108 => ⟨S2x24x512x512, .f32⟩
  | 109 => ⟨S2x24x512x512, .f32⟩
  | 110 => ⟨S_, .f32⟩
  | 111 => ⟨S2x24x512x512, .f32⟩
  | 112 => ⟨S2x24x512x512, .f32⟩
  | 113 => ⟨S1x24, .f32⟩
  | 114 => ⟨S2x512x512x1, .f32⟩
  | 115 => ⟨S2x1x512x512, .f32⟩
  | 116 => ⟨S1x1x1x1, .f32⟩
  | 117 => ⟨S2x1x512x512, .f32⟩
  | 118 => ⟨S2x1x512x512, .f32⟩
  | 119 => ⟨S2x1x512x512, .f32⟩
  | 120 => ⟨S2x1x512x512, .f32⟩
  | 121 => ⟨S_, .f32⟩
  | 122 => ⟨S2x1x512x512, .f32⟩
  | 123 => ⟨S2x1x512x512, .f32⟩
  | 124 => ⟨S_, .f32⟩
  | 125 => ⟨S2x1x512x512, .f32⟩
  | 126 => ⟨S2x1x512x512, .f32⟩
  | 127 => ⟨S2x262144, .f32⟩
  | _ => ⟨S2x96x512x512, .f32⟩

abbrev hbmTy0_1 (i : Nat) : BufTy := match i % 128 with
  | 0 => ⟨S2x16, .f32⟩
  | 1 => ⟨S2x16, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S2x16, .i32⟩
  | 9 => ⟨S2x16, .i32⟩
  | 10 => ⟨S_, .i32⟩
  | 11 => ⟨S2x16, .i32⟩
  | 12 => ⟨S2x16, .i1⟩
  | 13 => ⟨S_, .i32⟩
  | 14 => ⟨S2x16, .i32⟩
  | 15 => ⟨S2x16, .i1⟩
  | 16 => ⟨S_, .i32⟩
  | 17 => ⟨S_, .i1⟩
  | 18 => ⟨S2x16, .i1⟩
  | 19 => ⟨S2x16, .i1⟩
  | 20 => ⟨S2x16, .i1⟩
  | 21 => ⟨S2x16, .i32⟩
  | 22 => ⟨S2x16, .i32⟩
  | 23 => ⟨S2x16, .i32⟩
  | 24 => ⟨S_, .i32⟩
  | 25 => ⟨S_, .i32⟩
  | 26 => ⟨S2x16, .i32⟩
  | 27 => ⟨S2x16, .i32⟩
  | 28 => ⟨S2x16, .i32⟩
  | 29 => ⟨S_, .i32⟩
  | 30 => ⟨S2x16, .i32⟩
  | 31 => ⟨S2x16, .i1⟩
  | 32 => ⟨S2x16, .i32⟩
  | 33 => ⟨S2x16, .i32⟩
  | 34 => ⟨S_, .i32⟩
  | 35 => ⟨S2x16, .i32⟩
  | 36 => ⟨S2x16, .i1⟩
  | 37 => ⟨S2x16, .i1⟩
  | 38 => ⟨S_, .i32⟩
  | 39 => ⟨S2x16, .i32⟩
  | 40 => ⟨S2x16, .i32⟩
  | 41 => ⟨S2x16, .i32⟩
  | 42 => ⟨S2x16x1, .i32⟩
  | 43 => ⟨S2x16x1, .i32⟩
  | 44 => ⟨S2x16x2, .i32⟩
  | 45 => ⟨S2x16x2, .f32⟩
  | _ => ⟨S2x96x512x512, .f32⟩

abbrev hbmTy (i : Nat) : BufTy := match i / 128 with
  | 0 => hbmTy0_0 i
  | 1 => hbmTy0_1 i
  | _ => ⟨S2x96x512x512, .f32⟩

abbrev bufTy : (tb : Table) → Fin (tcTables nBuf tb) → BufTy
  | .hbm, ⟨i, _⟩ => hbmTy i
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst : Ref sig .tc := ⟨.hbm, 66, rfl⟩
abbrev main_v57 : Ref sig .tc := ⟨.hbm, 67, rfl⟩
abbrev main_v58 : Ref sig .tc := ⟨.hbm, 68, rfl⟩
abbrev main_cst_0 : Ref sig .tc := ⟨.hbm, 69, rfl⟩
abbrev main_v59 : Ref sig .tc := ⟨.hbm, 70, rfl⟩
abbrev main_v60 : Ref sig .tc := ⟨.hbm, 71, rfl⟩
abbrev main_c_1 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_cst_3 : Ref sig .tc := ⟨.hbm, 90, rfl⟩
abbrev main_call1_v13 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_2 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call2_cst : Ref sig .tc := ⟨.hbm, 110, rfl⟩
abbrev main_call2_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_3 : Ref sig .tc := ⟨.hbm, 121, rfl⟩
abbrev main_v84 : Ref sig .tc := ⟨.hbm, 122, rfl⟩
abbrev main_v85 : Ref sig .tc := ⟨.hbm, 123, rfl⟩
abbrev main_cst_4 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_values : Ref sig .tc := ⟨.hbm, 128, rfl⟩
abbrev main_indices : Ref sig .tc := ⟨.hbm, 129, rfl⟩
abbrev main_c_5 : Ref sig .tc := ⟨.hbm, 130, rfl⟩
abbrev main_call3_v0 : Ref sig .tc := ⟨.hbm, 131, rfl⟩
abbrev main_call3_c : Ref sig .tc := ⟨.hbm, 132, rfl⟩
abbrev main_call3_v1 : Ref sig .tc := ⟨.hbm, 133, rfl⟩
abbrev main_call3_c_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_c_1 : Ref sig .tc := ⟨.hbm, 138, rfl⟩
abbrev main_call3_v5 : Ref sig .tc := ⟨.hbm, 139, rfl⟩
abbrev main_call3_v6 : Ref sig .tc := ⟨.hbm, 140, rfl⟩
abbrev main_call3_c_2 : Ref sig .tc := ⟨.hbm, 141, rfl⟩
abbrev main_call3_v7 : Ref sig .tc := ⟨.hbm, 142, rfl⟩
abbrev main_call3_v8 : Ref sig .tc := ⟨.hbm, 143, rfl⟩
abbrev main_call3_c_3 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_v12 : Ref sig .tc := ⟨.hbm, 148, rfl⟩
abbrev main_call3_v13 : Ref sig .tc := ⟨.hbm, 149, rfl⟩
abbrev main_call3_v14 : Ref sig .tc := ⟨.hbm, 150, rfl⟩
abbrev main_v89 : Ref sig .tc := ⟨.hbm, 151, rfl⟩
abbrev main_c_6 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_c : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_0 : Ref sig .tc := ⟨.hbm, 166, rfl⟩
abbrev main_call4_v12 : Ref sig .tc := ⟨.hbm, 167, rfl⟩
abbrev main_call4_v13 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩

abbrev nD : Nat := 1
abbrev τ : Topo := Topo.v7x

variable {F : FTy → Type} [FloatOps F]
-- ==== Proof.KernelRun.lean ====
/-
The run of the kernel program: from any memory with zero counters it terminates, and at the end the two result
arrays hold what the last boundary of the run holds there, the arguments being as launched.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program runs to the end: the score map and the coordinates are what the last boundary of the run
    holds in their arrays, and the seven arguments are as launched. -/
theorem run : θ_run defs (onTc (τ := τ) (main (F := F))) ⟨m, fun _ => 0, ρ⟩ (fun r => ∀ c : Dev nD,
      r.2.mem ((c.tc : Thread nD τ).loc main_v37) = W7 m ρ c main_v37
      ∧ r.2.mem ((c.tc : Thread nD τ).loc main_v36) = W7 m ρ c main_v36
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v37 (by decide)), h c _ (mem_uc main_v36 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c)⟩)

end Cert.KernelIdeal.Value
-- ==== Proof.Spec.lean ====
/-
The mathematics both programs compute, written once over plain functions: the 3×3 convolution of the padded
image, the statistics of a channel, the normalised score.
-/
module

public import Idealize.ShloMosaic.Lib.Pipeline.ValueKit

@[expose] public section

noncomputable section

namespace Cert.Spec

open Idealize.ShloMosaic

/-- Entry (Y, X) of channel `c` of an image with a border of one zero all round (0 ≤ Y, X ≤ 513). -/
def padAt (f : Fin 96 → Fin 512 → Fin 512 → EReal) (c : Fin 96) (Y X : ℕ) : EReal :=
  if h : (1 ≤ Y ∧ Y ≤ 512) ∧ 1 ≤ X ∧ X ≤ 512 then f c ⟨Y - 1, by omega⟩ ⟨X - 1, by omega⟩ else 0

/-- One tap of the convolution: the inner product over the channels of a weight row with the padded image at (Y, X). -/
def tap (f : Fin 96 → Fin 512 → Fin 512 → EReal) (w : Fin 96 → EReal) (Y X : ℕ) : EReal :=
  ∑ c : Fin 96, w c * padAt f c Y X

/-- The 3×3 convolution at pixel (y, x) for one output channel, its nine taps added row by row. -/
def conv (f : Fin 96 → Fin 512 → Fin 512 → EReal) (w : Fin 96 → Fin 3 → Fin 3 → EReal) (y x : ℕ) : EReal :=
  tap f (w · 0 0) y x + tap f (w · 0 1) y (x + 1) + tap f (w · 0 2) y (x + 2)
    + tap f (w · 1 0) (y + 1) x + tap f (w · 1 1) (y + 1) (x + 1) + tap f (w · 1 2) (y + 1) (x + 2)
    + tap f (w · 2 0) (y + 2) x + tap f (w · 2 1) (y + 2) (x + 1) + tap f (w · 2 2) (y + 2) (x + 2)

/-- A tap in the left border column is zero. -/
theorem tap_left (f : Fin 96 → Fin 512 → Fin 512 → EReal) (w : Fin 96 → EReal) (Y : ℕ) : tap f w Y 0 = 0 := by
  simp [tap, padAt]

/-- A tap in the right border column is zero. -/
theorem tap_right (f : Fin 96 → Fin 512 → Fin 512 → EReal) (w : Fin 96 → EReal) (Y : ℕ) : tap f w Y 513 = 0 := by
  simp [tap, padAt]

end Cert.Spec
-- ==== Proof.Words.lean ====
/-
Index words: quotient and remainder by 512 of a small non-negative word, and the corrections that floor division
adds to them, which never apply here.
-/
module

public import Idealize.ShloMosaic.Lib.Pipeline.ValueKit
public import Idealize.ShloMosaic.Lib.Affine

@[expose] public section

noncomputable section

namespace Cert.Words

open Idealize.ShloMosaic

/-- A word below 2³¹ read signed is its number. -/
theorem toInt_small (n : ℕ) (h : n < 2 ^ 31) : (BitVec.ofNat 32 n).toInt = n := by
  rw [BitVec.toInt_eq_toNat_of_lt] <;> rw [BitVec.toNat_ofNat] <;> omega

/-- A word below 2³² read unsigned is its number. -/
theorem toNat_small (n : ℕ) (h : n < 2 ^ 31) : (BitVec.ofNat 32 n).toNat = n := by
  rw [BitVec.toNat_ofNat]; omega

/-- A small word is not below zero. -/
theorem slt_zero (n : ℕ) (h : n < 2 ^ 31) : IntOp.cmpi .slt (BitVec.ofNat 32 n) 0#32 = 0#1 := by
  show BitVec.ofBool (BitVec.slt _ _) = _
  rw [BitVec.slt, toInt_small n h, decide_eq_false (by simp)]
  rfl

/-- Two small words differ exactly when their numbers do. -/
theorem ne_small (n k : ℕ) (hn : n < 2 ^ 31) (hk : k < 2 ^ 31) :
    IntOp.cmpi .ne (BitVec.ofNat 32 n) (BitVec.ofNat 32 k) = if n = k then 0#1 else 1#1 := by
  show BitVec.ofBool (_ != _) = _
  have : (BitVec.ofNat 32 n = BitVec.ofNat 32 k) ↔ n = k := by
    rw [← BitVec.toNat_inj, toNat_small n hn, toNat_small k hk]
  by_cases e : n = k
  · simp [e]
  · have h' : BitVec.ofNat 32 n ≠ BitVec.ofNat 32 k := fun h => e (this.1 h)
    rw [if_neg e, bne, beq_eq_false_iff_ne.mpr h']
    rfl

/-- The remainder of a small word by 512. -/
theorem rem512 (u : ArithUnit) (n : ℕ) (h : n < 2 ^ 31) :
    IntOp.remsi u (BitVec.ofNat 32 n) 512#32 = BitVec.ofNat 32 (n % 512) := by
  rw [← BitVec.toNat_inj, IntOp.toNat_remsi u (by rw [toNat_small n h]; omega) 512 (by decide) (by decide),
    toNat_small n h, toNat_small _ (by omega)]

/-- The quotient of a small word by 512. -/
theorem div512 (u : ArithUnit) (n : ℕ) (h : n < 2 ^ 31) :
    IntOp.divsi u (BitVec.ofNat 32 n) 512#32 = BitVec.ofNat 32 (n / 512) := by
  have hm : (BitVec.ofNat 32 n).msb = false := by
    rw [BitVec.msb_eq_false_iff_two_mul_lt, toNat_small n h]; omega
  unfold IntOp.divsi
  rw [if_neg (IntOp.not_corner_of_pos (by decide)), BitVec.sdiv_eq, hm, show (512#32).msb = false from by decide]
  show BitVec.ofNat 32 n / 512#32 = _
  rw [← BitVec.toNat_inj, BitVec.toNat_udiv, toNat_small n h,
    show (512#32).toNat = 512 from rfl]
  exact (toNat_small _ (by omega)).symm

end Cert.Words
-- ==== Proof.ConvBlock.lean ====
/-
What one grid point of the convolution kernel computes: from the block of the padded image it is given, the nine taps
at every pixel of the block.
-/
module

public import proofs.«01_k».proof.Proof.Gen.KernelIdeal.Frame
public import proofs.«01_k».proof.Proof.Spec
public import proofs.«01_k».proof.Proof.Words

@[expose] public section

set_option maxRecDepth 16384

noncomputable section

namespace Cert.KernelIdeal.Value

open Idealize.ShloMosaic Idealize.ShloMosaic.TcCoe Idealize.ShloMosaic.Tactic
open Cert.KernelIdeal.Gen Cert.Spec Cert.Words

/-- The word the kernel computes for the column of a lane: the lane's number modulo 512. -/
theorem column_at (o : Fin 24) (p : Fin 16384) :
    Scalar.select (k0_pay5 (ix2 o p)) (IntOp.addi (k0_pay4 (ix2 o p)) (Scalar.select (Scalar.cmpi .eq 512#32 0#32) 1#32 512#32)) (k0_pay4 (ix2 o p))
      = BitVec.ofNat 32 (p.val % 512) := by
  pointwise [k0_pay5, k0_pay4]
  rw [show Scalar.select (Scalar.cmpi CmpIPredicate.eq 512#32 0#32) 1#32 512#32 = 512#32 from by decide,
    rem512 _ _ (by omega), slt_zero _ (by omega), show Scalar.cmpi CmpIPredicate.slt 512#32 0#32 = 0#1 from by decide]
  rw [show ∀ b : BitVec 1, IntOp.andi (IntOp.xori 0#1 0#1) b = 0#1 from by decide]
  rfl

/-- The mask that leaves out one column: 0 in that column, 1 in the others. -/
theorem mask_at (o : Fin 24) (p : Fin 16384) (k : ℕ) (hk : k < 512) :
    (FloatOps.sitofp FTy.f32 (BitVec.setWidth 32 (IntOp.cmpi CmpIPredicate.ne
      (Scalar.select (k0_pay5 (ix2 o p)) (IntOp.addi (k0_pay4 (ix2 o p)) (Scalar.select (Scalar.cmpi .eq 512#32 0#32) 1#32 512#32)) (k0_pay4 (ix2 o p)))
      (BitVec.ofNat 32 k))) : Ideal .f32) = if p.val % 512 = k then 0 else 1 := by
  rw [column_at, ne_small _ _ (by omega) (by omega)]
  split_ifs
  · simp [FloatOps.sitofp]
  · simp [FloatOps.sitofp]

/-- A tap shifted one column to the right by a rotation whose wrapped column is masked out: in column 0 it is zero, as
    the border is, and elsewhere it is the tap one lane before. -/
theorem masked_left (f : Fin 96 → Fin 512 → Fin 512 → EReal) (w : Fin 96 → EReal) (p Y : ℕ) (A : EReal)
    (h : p % 512 ≠ 0 → A = tap f w Y (p % 512)) : (A * if p % 512 = 0 then 0 else 1) = tap f w Y (p % 512) := by
  split_ifs with e
  · rw [mul_zero, e, tap_left]
  · rw [mul_one, h e]

/-- A tap shifted one column to the left by a rotation whose wrapped column is masked out: in column 511 it is zero, as
    the border is, and elsewhere it is the tap one lane after. -/
theorem masked_right (f : Fin 96 → Fin 512 → Fin 512 → EReal) (w : Fin 96 → EReal) (p Y : ℕ) (A : EReal)
    (h : p % 512 ≠ 511 → A = tap f w Y (p % 512 + 2)) : (A * if p % 512 = 511 then 0 else 1) = tap f w Y (p % 512 + 2) := by
  split_ifs with e
  · rw [mul_zero, e, tap_right]
  · rw [mul_one, h e]

/-- The rows of the product, given that the product at a lane is the inner product with the padded image. -/
theorem taps_at (S : FVec Ideal S216x17408 .f32) (wall : Vec Ideal S216x96 .f32)
    (f : Fin 96 → Fin 512 → Fin 512 → EReal) (k : ℕ)
    (hS : ∀ (r : Fin 216) (l : Fin 17408), S (ix2 r l) = tap f (fun c => wall (ix2 r c)) (32 * k + l.val / 512) (l.val % 512 + 1))
    (o : Fin 24) (p : Fin 16384) :
    k0_pay6 S (Scalar.select (Scalar.cmpi .eq 512#32 0#32) 1#32 512#32) k0_pay4 k0_pay5 (ix2 o p)
      = conv f (fun c ky kx => wall (ix2 ⟨24 * (3 * ky.val + kx.val) + o.val, by omega⟩ c)) (32 * k + p.val / 512) (p.val % 512) := by
  pointwise [k0_pay6]
  rw [mask_at o p 0 (by decide), mask_at o p 511 (by decide)]
  simp only [hS]
  unfold conv
  have row (a b : ℕ) (h : a = b) (ha : a < 216) (hb : b < 216) :
      (fun c : Fin 96 => wall (ix2 (⟨a, ha⟩ : Fin 216) c)) = fun c => wall (ix2 (⟨b, hb⟩ : Fin 216) c) := by subst h; rfl
  have same (w w' : Fin 96 → EReal) (Y X Y' X' : ℕ) (hw : w = w') (hY : Y = Y') (hX : X = X') :
      tap f w Y X = tap f w' Y' X' := by subst hw hY hX; rfl
  congr 1
  · congr 1
    · congr 1
      · congr 1
        · congr 1
          · congr 1
            · congr 1
              · congr 1
                · refine masked_left f _ _ _ _ fun e => ?_
                  rw [dif_neg (by omega)]
                  exact same _ _ _ _ _ _ (row _ _ (by simp) _ _) (by omega) (by omega)
              · refine masked_right f _ _ _ _ fun e => ?_
                rw [dif_pos (by omega)]
                exact same _ _ _ _ _ _ (row _ _ (by simp) _ _) (by omega) (by omega)
            · refine masked_left f _ _ _ _ fun e => ?_
              rw [dif_neg (by omega)]
              exact same _ _ _ _ _ _ (row _ _ (by simp) _ _) (by omega) (by omega)
          · exact same _ _ _ _ _ _ (row _ _ (by simp) _ _) (by omega) (by omega)
        · refine masked_right f _ _ _ _ fun e => ?_
          rw [dif_pos (by omega)]
          exact same _ _ _ _ _ _ (row _ _ (by simp) _ _) (by omega) (by omega)
      · refine masked_left f _ _ _ _ fun e => ?_
        rw [dif_neg (by omega)]
        exact same _ _ _ _ _ _ (row _ _ (by simp) _ _) (by omega) (by omega)
    · exact same _ _ _ _ _ _ (row _ _ (by simp) _ _) (by omega) (by omega)
  · refine masked_right f _ _ _ _ fun e => ?_
    rw [dif_pos (by omega)]
    exact same _ _ _ _ _ _ (row _ _ (by simp) _ _) (by omega) (by omega)

/-- One entry of the product a grid point forms: the inner product over the channels of a weight row with the
    column of the block's image at a lane, the first 512 lanes being the row of pixels above the block (zero at the
    first block), the last 512 the row below (zero at the last block). -/
theorem product_at (i : grid0.Coords) (above : Vec Ideal S1x96x512 .f32) (mid : Vec Ideal S1x96x16384 .f32)
    (below : Vec Ideal S1x96x512 .f32) (wall : Vec Ideal S216x96 .f32) (f : Fin 96 → Fin 512 → Fin 512 → EReal) (k : ℕ)
    (hk : (i 1).val = k) (hk16 : k < 16)
    (ha : ∀ (hp : 0 < k) (c : Fin 96) (x : Fin 512), above (ix3 0 c x) = f c ⟨32 * k - 1, by omega⟩ x)
    (hm : ∀ (c : Fin 96) (l : Fin 16384), mid (ix3 0 c l) = f c ⟨32 * k + l.val / 512, by omega⟩ ⟨l.val % 512, by omega⟩)
    (hb : ∀ (hp : k < 15) (c : Fin 96) (x : Fin 512), below (ix3 0 c x) = f c ⟨32 * k + 32, by omega⟩ x)
    (r : Fin 216) (l : Fin 17408) :
    k0_pay3 i above mid below wall (ix2 r l)
      = tap f (fun c => wall (ix2 r c)) (32 * k + l.val / 512) (l.val % 512 + 1) := by
  pointwise [k0_pay3]
  unfold tap
  refine Finset.sum_congr rfl fun c _ => congrArg (wall (ix2 r c) * ·) ?_
  rw [hk]
  have hlt (a b : ℕ) (ha : a < 2 ^ 31) (hb : b < 2 ^ 31) : Scalar.cmpi .slt (BitVec.ofNat 32 a) (BitVec.ofNat 32 b) = if a < b then 1#1 else 0#1 := by
    show BitVec.ofBool (BitVec.slt _ _) = _
    rw [BitVec.slt, toInt_small a ha, toInt_small b hb]
    by_cases h : a < b
    · rw [if_pos h, decide_eq_true (by exact_mod_cast h)]; rfl
    · rw [if_neg h, decide_eq_false (by exact_mod_cast h)]; rfl
  have hgt : Scalar.cmpi .sgt (BitVec.ofNat 32 k) 0#32 = if 0 < k then 1#1 else 0#1 := hlt 0 k (by omega) (by omega)
  rw [hgt, show (15#32) = BitVec.ofNat 32 15 from rfl, hlt k 15 (by omega) (by omega)]
  unfold padAt
  by_cases h1 : l.val < 512
  · rw [dif_pos h1]
    by_cases h0 : 0 < k
    · rw [if_pos h0, dif_pos (by omega), show Scalar.select 1#1 _ _ = _ from if_pos rfl, ha h0]
      exact congrArg₂ (f c) (Fin.ext (by simp only; omega)) (Fin.ext (by simp only; omega))
    · rw [if_neg h0, dif_neg (by omega), show Scalar.select 0#1 _ _ = _ from if_neg (by decide)]
  · rw [dif_neg h1]
    by_cases h2 : l.val - 512 < 16384
    · rw [dif_pos h2, dif_pos (by omega), hm]
      exact congrArg₂ (f c) (Fin.ext (by simp only; omega)) (Fin.ext (by simp only; omega))
    · rw [dif_neg h2]
      by_cases h3 : k < 15
      · rw [if_pos h3, dif_pos (by omega), show Scalar.select 1#1 _ _ = _ from if_pos rfl, hb h3]
        exact congrArg₂ (f c) (Fin.ext (by simp only; omega)) (Fin.ext (by simp only; omega))
      · rw [if_neg h3, dif_neg (by omega), show Scalar.select 0#1 _ _ = _ from if_neg (by decide)]

/-- What a grid point of the convolution kernel computes at output channel `o` and lane `p` of its block of 32 rows:
    the 3×3 convolution at that pixel. -/
theorem block_at (i : grid0.Coords) (wall : Vec Ideal S216x96 .f32) (above : Vec Ideal S1x96x512 .f32)
    (mid : Vec Ideal S1x96x16384 .f32) (below : Vec Ideal S1x96x512 .f32) (f : Fin 96 → Fin 512 → Fin 512 → EReal) (k : ℕ)
    (hk : (i 1).val = k) (hk16 : k < 16)
    (ha : ∀ (hp : 0 < k) (c : Fin 96) (x : Fin 512), above (ix3 0 c x) = f c ⟨32 * k - 1, by omega⟩ x)
    (hm : ∀ (c : Fin 96) (l : Fin 16384), mid (ix3 0 c l) = f c ⟨32 * k + l.val / 512, by omega⟩ ⟨l.val % 512, by omega⟩)
    (hb : ∀ (hp : k < 15) (c : Fin 96) (x : Fin 512), below (ix3 0 c x) = f c ⟨32 * k + 32, by omega⟩ x)
    (o : Fin 24) (p : Fin 16384) :
    k0_pay6 (k0_pay3 i above mid below wall) (Scalar.select (Scalar.cmpi .eq 512#32 0#32) 1#32 512#32) k0_pay4 k0_pay5 (ix2 o p)
      = conv f (fun c ky kx => wall (ix2 ⟨24 * (3 * ky.val + kx.val) + o.val, by omega⟩ c)) (32 * k + p.val / 512) (p.val % 512) :=
  taps_at _ wall f k (fun r l => product_at i above mid below wall f k hk hk16 ha hm hb r l) o p

end Cert.KernelIdeal.Value
-- ==== Proof.ConvArray.lean ====
/-
What the two arrays of the convolution kernel hold after its 32 grid points: the convolution at every pixel, and per
block of 32 rows the channel's sum and sum of squares.
-/
module

public import proofs.«01_k».proof.Proof.ConvBlock

@[expose] public section

set_option maxRecDepth 16384

noncomputable section

namespace Cert.KernelIdeal.Value

open Idealize.ShloMosaic Idealize.ShloMosaic.TcCoe Idealize.ShloMosaic.Tactic
open Cert.KernelIdeal.Gen Cert.Spec

variable (V : (c : Dev nD) → (b : Ref sig .tc) → Buf (Elt Ideal) ((c : Thread nD τ).loc b))

/-- The image of batch element `b` as the kernel finds it, its pixels in one row of 262144 lanes. -/
def image (c : Dev nD) (b : Fin 2) (ch : Fin 96) (y x : Fin 512) : EReal :=
  (V c main_v0 : FVec Ideal S2x96x262144 .f32) (ix3 b ch ⟨512 * y.val + x.val, by omega⟩)

/-- The weights as the kernel finds them: row 24·(3·ky + kx) + o of the weight matrix. -/
def weights (c : Dev nD) (o : Fin 24) (ch : Fin 96) (ky kx : Fin 3) : EReal :=
  (V c main_v2 : FVec Ideal S216x96 .f32) (ix2 ⟨24 * (3 * ky.val + kx.val) + o.val, by omega⟩ ch)

/-- The convolution of batch element `b`, channel `o`, at lane `p` of the flattened image. -/
def convAt (c : Dev nD) (b : Fin 2) (o : Fin 24) (p : ℕ) : EReal :=
  conv (image V c b) (weights V c o) (p / 512) (p % 512)

/-- The block indices of the six windows at a grid point. -/
theorem idx0 : ∀ t : Fin cfg0.N,
    (cfg0.win 0).index t = ![0, 0]
    ∧ (cfg0.win 1).index t = ![(grid0.coords t 0).val, 0, 32 * (grid0.coords t 1).val - 1]
    ∧ (cfg0.win 2).index t = ![(grid0.coords t 0).val, 0, (grid0.coords t 1).val]
    ∧ (cfg0.win 3).index t = ![(grid0.coords t 0).val, 0, min (32 * (grid0.coords t 1).val + 32) 511]
    ∧ (cfg0.win 4).index t = ![(grid0.coords t 0).val, 0, (grid0.coords t 1).val]
    ∧ (cfg0.win 5).index t = ![(grid0.coords t 0).val, (grid0.coords t 1).val, 0, 0] := by decide +kernel

/-- What the body computes at grid point `t` for output channel `o` and lane `p` of the block: the convolution at lane
    16384·k + p of the image, `k` being the block. -/
theorem body_at (c : Dev nD) (t : Fin cfg0.N) (o : Fin 24) (p : Fin 16384) :
    k0_pay6 (k0_pay3 (grid0.coords t) (iblk0 V c 1 t) (iblk0 V c 2 t) (iblk0 V c 3 t) (iblk0 V c 0 t))
        (Scalar.select (Scalar.cmpi .eq 512#32 0#32) 1#32 512#32) k0_pay4 k0_pay5 (ix2 o p)
      = convAt V c (grid0.coords t 0) o (16384 * (grid0.coords t 1).val + p.val) := by
  obtain ⟨e0, e1, e2, e3, -, -⟩ := idx0 t
  have hk16 : (grid0.coords t 1).val < 16 := (grid0.coords t 1).isLt
  refine (block_at (grid0.coords t) (iblk0 V c 0 t) (iblk0 V c 1 t) (iblk0 V c 2 t) (iblk0 V c 3 t)
    (image V c (grid0.coords t 0)) (grid0.coords t 1).val rfl hk16 ?_ ?_ ?_ o p).trans ?_
  · intro hp ch x
    unfold image
    blk_point [iblk0, e1]
  · intro ch l
    unfold image
    blk_point [iblk0, e2]
  · intro hp ch x
    unfold image
    blk_point [iblk0, e3]
  · unfold convAt
    have hw : (fun (ch : Fin 96) (ky kx : Fin 3) => iblk0 V c 0 t (ix2 ⟨24 * (3 * ky.val + kx.val) + o.val, by omega⟩ ch))
        = weights V c o := by
      funext ch ky kx
      unfold weights
      blk_point [iblk0, e0]
    rw [hw, show (16384 * (grid0.coords t 1).val + p.val) / 512 = 32 * (grid0.coords t 1).val + p.val / 512 from by omega,
      show (16384 * (grid0.coords t 1).val + p.val) % 512 = p.val % 512 from by omega]

/-- The loads of a whole buffer are the buffer. -/
theorem pay7_eq (i : grid0.Coords) (x0 : Vec Ideal S216x96 .f32) (x1 : Vec Ideal S1x96x512 .f32)
    (x2 : Vec Ideal S1x96x16384 .f32) (x3 : Vec Ideal S1x96x512 .f32) :
    k0_pay7 i x0 x1 x2 x3 = k0_pay6 (k0_pay3 i x1 x2 x3 x0) (Scalar.select (Scalar.cmpi .eq 512#32 0#32) 1#32 512#32) k0_pay4 k0_pay5 := by
  unfold k0_pay7
  frame_out

/-- The array of convolution values after the region. -/
theorem conv_array (c : Dev nD) :
    (dat0 V c).arrAt 4 cfg0.N = (fun y : S2x24x262144.Idx => convAt V c (y 0) (y 1) (y 2).val) := by
  refine (dat0 V c).arrAt_eq_of_covers 4 _ (by decide +kernel) fun t hf y => ?_
  blk_simp
  rw [after0_4]
  frame_out
  obtain ⟨-, -, -, -, e4, -⟩ := idx0 t
  idx_vars y
  pointwise [k0_pay1]
  rw [pay7_eq, body_at]
  have h0 : ((View.whole main_v3_0).slice (win0_4.rect t)).emb (ix3 y0 y1 y2) 0 = grid0.coords t 0 :=
    Fin.ext (by blk_simp [e4])
  have h1 : ((View.whole main_v3_0).slice (win0_4.rect t)).emb (ix3 y0 y1 y2) 1 = y1 :=
    Fin.ext (by blk_simp [e4])
  rw [h0, h1]
  refine congrArg _ ?_
  blk_simp [e4]
  omega

/-- A block's row of sums: the channel's sum over the 16384 lanes of the block. -/
def blockSum (c : Dev nD) (b : Fin 2) (k : Fin 16) (o : Fin 24) : EReal := ∑ p : Fin 16384, convAt V c b o (16384 * k.val + p.val)
/-- A block's row of sums of squares. -/
def blockSquares (c : Dev nD) (b : Fin 2) (k : Fin 16) (o : Fin 24) : EReal :=
  ∑ p : Fin 16384, convAt V c b o (16384 * k.val + p.val) * convAt V c b o (16384 * k.val + p.val)

/-- The array of statistics after the region: per block the sums in row 0, the sums of squares in row 1, zero below. -/
theorem stat_array (c : Dev nD) :
    (dat0 V c).arrAt 5 cfg0.N = (fun y : S2x16x8x24.Idx =>
      if (y 2).val = 0 then blockSum V c (y 0) (y 1) (y 3) else if (y 2).val = 1 then blockSquares V c (y 0) (y 1) (y 3) else (0 : EReal)) := by
  refine (dat0 V c).arrAt_eq_of_covers 5 _ (by decide +kernel) fun t hf y => ?_
  blk_simp
  rw [after0_5]
  frame_out
  obtain ⟨-, -, -, -, -, e5⟩ := idx0 t
  idx_vars y
  pointwise [k0_pay2]
  rw [pay7_eq]
  simp only [body_at]
  have h0 : ((View.whole main_v3_1).slice (win0_5.rect t)).emb (ix4 y0 y1 y2 y3) 0 = grid0.coords t 0 :=
    Fin.ext (by blk_simp [e5])
  have h1 : ((View.whole main_v3_1).slice (win0_5.rect t)).emb (ix4 y0 y1 y2 y3) 1 = grid0.coords t 1 :=
    Fin.ext (by blk_simp [e5])
  have h3 : ((View.whole main_v3_1).slice (win0_5.rect t)).emb (ix4 y0 y1 y2 y3) 3 = y3 :=
    Fin.ext (by blk_simp [e5])
  rw [h0, h1, h3]
  have h2 : win0_5.index t 2 = 0 := by blk_simp [e5]
  rw [h2]
  unfold blockSum blockSquares
  by_cases e0 : y2.val = 0
  · rw [dif_pos (by omega), if_pos (by omega)]
  · rw [dif_neg (by omega), if_neg (by omega)]
    by_cases e1 : y2.val = 1
    · rw [dif_pos (by omega)]
      exact (if_pos (by show 0 * 8 + y2.val = 1; omega)).symm
    · rw [dif_neg (by omega)]
      exact (if_neg (by show ¬ 0 * 8 + y2.val = 1; omega)).symm

end Cert.KernelIdeal.Value
-- ==== Proof.Extremes.lean ====
/-
The two reductions of a selection step read as what they are: the greatest entry of a vector and the least index word
among chosen entries, the whole vector being reduced to one number.
-/
module

public import Idealize.ShloMosaic.Lib.Pipeline.ValueKit
public import Idealize.ShloMosaic.Lib.Affine

@[expose] public section

noncomputable section

namespace Cert.Extremes

open Idealize.ShloMosaic

/-- A fold of the maximum from the bottom is at least every value, and is the bottom or one of the values. -/
theorem fold_max {ι : Type} (s : Finset ι) (f : ι → EReal) :
    (∀ i ∈ s, f i ≤ s.fold max ⊥ f) ∧ (s.fold max ⊥ f = ⊥ ∨ ∃ i ∈ s, s.fold max ⊥ f = f i) := by
  classical
  induction s using Finset.induction_on with
  | empty => simp
  | insert a s ha ih =>
    rw [Finset.fold_insert ha]
    refine ⟨fun i hi => ?_, ?_⟩
    · rcases Finset.mem_insert.1 hi with rfl | hi
      · exact le_max_left _ _
      · exact (ih.1 i hi).trans (le_max_right _ _)
    · rcases le_total (f a) (s.fold max ⊥ f) with h | h
      · rw [max_eq_right h]
        rcases ih.2 with e | ⟨i, hi, e⟩
        · exact Or.inl e
        · exact Or.inr ⟨i, Finset.mem_insert_of_mem hi, e⟩
      · rw [max_eq_left h]
        exact Or.inr ⟨a, Finset.mem_insert_self _ _, rfl⟩

/-- The signed minimum of two words is at most each, and is one of them. -/
theorem minsi_spec (x y : BitVec 32) :
    (IntOp.minsi x y).toInt ≤ x.toInt ∧ (IntOp.minsi x y).toInt ≤ y.toInt ∧ (IntOp.minsi x y = x ∨ IntOp.minsi x y = y) := by
  unfold IntOp.minsi
  by_cases h : x.toInt < y.toInt
  · rw [show x.slt y = true from decide_eq_true h]
    exact ⟨le_refl _, h.le, Or.inl rfl⟩
  · rw [show x.slt y = false from decide_eq_false h]
    exact ⟨not_lt.1 h, le_refl _, Or.inr rfl⟩

/-- A fold of the signed minimum is at most every word met, and is the start or one of the words. -/
theorem fold_min {ι : Type} (s : Finset ι) (f : ι → BitVec 32) (z : BitVec 32) :
    (∀ i ∈ s, (s.fold IntOp.minsi z f).toInt ≤ (f i).toInt) ∧ (s.fold IntOp.minsi z f = z ∨ ∃ i ∈ s, s.fold IntOp.minsi z f = f i) := by
  classical
  induction s using Finset.induction_on with
  | empty => simp
  | insert a s ha ih =>
    rw [Finset.fold_insert ha]
    obtain ⟨h1, h2, h3⟩ := minsi_spec (f a) (s.fold IntOp.minsi z f)
    refine ⟨fun i hi => ?_, ?_⟩
    · rcases Finset.mem_insert.1 hi with rfl | hi
      · exact h1
      · exact h2.trans (ih.1 i hi)
    · rcases h3 with e | e
      · exact Or.inr ⟨a, Finset.mem_insert_self _ _, e⟩
      · rw [e]
        rcases ih.2 with e' | ⟨i, hi, e'⟩
        · exact Or.inl e'
        · exact Or.inr ⟨i, Finset.mem_insert_of_mem hi, e'⟩

/-- The pattern of minus infinity is the bottom. -/
theorem ofBits_negInf : (FloatOps.ofBits .f32 0xFF800000#32 : Ideal .f32) = (⊥ : EReal) := by
  show Ideal.ofBits .f32 0xFF800000#32 = ⊥
  simp [Ideal.ofBits, Ideal.ieee]

/-- The pattern of minus one is below zero. -/
theorem ofBits_negOne : (Ideal.ofBits .f32 0xBF800000#32 : EReal) < 0 := by
  have : Ideal.ofBits .f32 0xBF800000#32 = ((-(1 : ℝ)) : EReal) := by
    simp [Ideal.ofBits, Ideal.ieee, -EReal.coe_mul, -EReal.coe_neg]; norm_num
  rw [this]
  exact_mod_cast (by norm_num : (-(1 : ℝ)) < 0)

variable {s t : Shape} {axes : List (Fin s.rank)}

/-- The maximum of a whole vector, reduced to one number. -/
theorem max_spec (src : FVec Ideal s .f32) (h : s.Reduces axes t) (hφ : FKind.Formats .f32)
    (hacc : (0xFF800000#32 : BitVec 32) = FKind.maximumf.neutral .f32 hφ) (j : t.Idx) (hj : ∀ i : s.Idx, h.drop i = j) :
    (∀ i : s.Idx, src i ≤ multiReduction .maximumf axes t src 0xFF800000#32 h hφ hacc j)
    ∧ (multiReduction .maximumf axes t src 0xFF800000#32 h hφ hacc j = (⊥ : EReal)
      ∨ ∃ i : s.Idx, multiReduction .maximumf axes t src 0xFF800000#32 h hφ hacc j = src i) := by
  have e : multiReduction .maximumf axes t src 0xFF800000#32 h hφ hacc j = (Finset.univ : Finset s.Idx).fold max (⊥ : EReal) src := by
    rw [multiReduction_maximumf_eq_fold, ofBits_negInf, Finset.filter_true_of_mem fun i _ => hj i]
    rfl
  rw [e]
  obtain ⟨a, b⟩ := fold_max (Finset.univ : Finset s.Idx) src
  refine ⟨fun i => a i (Finset.mem_univ i), b.imp id fun ⟨i, _, h⟩ => ⟨i, h⟩⟩

/-- The signed minimum of a whole vector of words, reduced to one word. -/
theorem min_spec (src : IVec s 32) (h : s.Reduces axes t) (hacc : (2147483647#32 : BitVec 32) = IKind.minsi.neutral)
    (j : t.Idx) (hj : ∀ i : s.Idx, h.drop i = j) :
    (∀ i : s.Idx, (multiReductionI .minsi axes t src 2147483647#32 h hacc j).toInt ≤ (src i).toInt)
    ∧ (multiReductionI .minsi axes t src 2147483647#32 h hacc j = 2147483647#32
      ∨ ∃ i : s.Idx, multiReductionI .minsi axes t src 2147483647#32 h hacc j = src i) := by
  have e : multiReductionI .minsi axes t src 2147483647#32 h hacc j
      = (Finset.univ : Finset s.Idx).fold IntOp.minsi 2147483647#32 src := by
    rw [multiReductionI_eq_fold, Finset.filter_true_of_mem fun i _ => hj i]
    rfl
  rw [e]
  obtain ⟨a, b⟩ := fold_min (Finset.univ : Finset s.Idx) src 2147483647#32
  refine ⟨fun i => a i (Finset.mem_univ i), b.imp id fun ⟨i, _, h⟩ => ⟨i, h⟩⟩

end Cert.Extremes
-- ==== Proof.Select.lean ====
/-
Selection by repeated maximum: take the greatest value, among equals the one of least index word, put -1 in its place,
repeat. What is taken is the top of the order "greater value first, then smaller index". And the merge: the top of
a union of blocks is the top of the blocks' tops.
-/
module

public import Idealize.ShloMosaic.Lib.Pipeline.ValueKit

@[expose] public section

noncomputable section

namespace Cert.Select

/-- The first `k` of a set in an order: no repetition, in order, and before everything not taken. -/
structure Top {P : Type} (B : P → P → Prop) {k : ℕ} (σ : Fin k → P) : Prop where
  inj : Function.Injective σ
  ord : ∀ i j, i < j → B (σ i) (σ j)
  dom : ∀ i p, (∀ j, σ j ≠ p) → B (σ i) p

/-- Greater value first; among equal values the smaller number first. -/
def Before {P : Type} (v : P → EReal) (g : P → ℕ) (p q : P) : Prop := v q < v p ∨ (v p = v q ∧ g p < g q)

/-- The order is transitive. -/
theorem Before.trans {P : Type} {v : P → EReal} {g : P → ℕ} {a b c : P} (h : Before v g a b) (h' : Before v g b c) :
    Before v g a c := by
  rcases h with h | ⟨h, h2⟩ <;> rcases h' with h' | ⟨h', h2'⟩
  · exact Or.inl (h'.trans h)
  · exact Or.inl (h' ▸ h)
  · exact Or.inl (h ▸ h')
  · exact Or.inr ⟨h.trans h', h2.trans h2'⟩

/-- Nothing comes before itself. -/
theorem Before.irrefl {P : Type} {v : P → EReal} {g : P → ℕ} (a : P) : ¬ Before v g a a := by
  rintro (h | ⟨-, h⟩)
  · exact lt_irrefl _ h
  · exact lt_irrefl _ h

/-- One selection step. The array `u` holds `v` outside the taken set and -1 on it; `M` is its greatest entry and `W`
    the least index word among the entries equal to `M`. Then they are the value and the word of the first element,
    in the order, of what is not taken. -/
theorem step {P : Type} (v : P → EReal) (g : P → BitVec 32) (hv : ∀ p, 0 ≤ v p) (hg : ∀ p, (g p).toNat < 2 ^ 31 - 1)
    (hinj : Function.Injective g) (S : Set P) (hS : ∃ q, q ∉ S) (u : P → EReal) (hu : ∀ p, p ∉ S → u p = v p)
    (hu' : ∀ p, p ∈ S → u p < 0) (M : EReal) (W : BitVec 32)
    (hle : ∀ p, u p ≤ M) (hmem : M = ⊥ ∨ ∃ p, M = u p)
    (hle' : ∀ p, u p = M → W.toInt ≤ (g p).toInt) (hmem' : W = 2147483647#32 ∨ ∃ p, u p = M ∧ W = g p) :
    ∃ p, p ∉ S ∧ (∀ q, q ∉ S → q ≠ p → Before v (fun p => (g p).toNat) p q) ∧ M = v p ∧ u p = M ∧ W = g p := by
  have hgi (p : P) : (g p).toInt = (g p).toNat := by
    have := hg p
    rw [BitVec.toInt_eq_toNat_of_lt (by omega)]
  obtain ⟨q0, hq0⟩ := hS
  have hM0 : 0 ≤ M := (hv q0).trans ((hu q0 hq0).symm ▸ hle q0)
  have hout (p : P) (h : u p = M) : p ∉ S := fun hp => absurd (h ▸ hu' p hp) (not_lt.2 hM0)
  obtain ⟨p0, hp0⟩ : ∃ p, u p = M := by
    rcases hmem with h | ⟨p, h⟩
    · rw [h] at hM0; exact absurd hM0 (by simp)
    · exact ⟨p, h.symm⟩
  obtain ⟨p, hp, hW⟩ : ∃ p, u p = M ∧ W = g p := by
    rcases hmem' with h | h
    · have h1 := hle' p0 hp0
      have h2 := hg p0
      rw [h, hgi] at h1
      have h3 : (2147483647#32 : BitVec 32).toInt = 2147483647 := by decide
      omega
    · exact h
  refine ⟨p, hout p hp, fun q hq hne => ?_, ?_, hp, hW⟩
  · have h1 : v q ≤ v p := by rw [← hu q hq, ← hu p (hout p hp), hp]; exact hle q
    rcases h1.lt_or_eq with h | h
    · exact Or.inl h
    · refine Or.inr ⟨h.symm, ?_⟩
      have h2 : u q = M := by rw [hu q hq, h, ← hu p (hout p hp), hp]
      have h3 := hle' q h2
      rw [hW, hgi, hgi] at h3
      have h4 : (g p).toNat ≠ (g q).toNat := fun e => hne (hinj (BitVec.eq_of_toNat_eq e)).symm
      show (g p).toNat < (g q).toNat
      omega
  · rw [← hp, hu p (hout p hp)]

/-- The selection repeated `k` times, starting from the values: what is selected is the top `k` of the order. -/
theorem select_top {P : Type} [Fintype P] [Nonempty P] (v : P → EReal) (g : P → BitVec 32) (hv : ∀ p, 0 ≤ v p)
    (hg : ∀ p, (g p).toNat < 2 ^ 31 - 1) (hinj : Function.Injective g) (k : ℕ) (hk : k ≤ Fintype.card P)
    (u : ℕ → P → EReal) (M : ℕ → EReal) (W : ℕ → BitVec 32) (h0 : ∀ p, u 0 p = v p)
    (hle : ∀ n p, u n p ≤ M n) (hmem : ∀ n, M n = ⊥ ∨ ∃ p, M n = u n p)
    (hle' : ∀ n p, u n p = M n → (W n).toInt ≤ (g p).toInt)
    (hmem' : ∀ n, W n = 2147483647#32 ∨ ∃ p, u n p = M n ∧ W n = g p)
    (hkeep : ∀ n p, g p ≠ W n → u (n + 1) p = u n p) (hkill : ∀ n p, g p = W n → u n p = M n → u (n + 1) p < 0) :
    ∃ σ : Fin k → P, (∀ n, M n.val = v (σ n) ∧ W n.val = g (σ n)) ∧ Top (Before v fun p => (g p).toNat) σ := by
  classical
  have inv (p : P) : Function.invFun g (g p) = p := Function.leftInverse_invFun hinj p
  set τ : ℕ → P := fun n => Function.invFun g (W n) with hτ
  let S (n : ℕ) : Finset P := (Finset.range n).image τ
  have hS (n : ℕ) (hn : n < k) : ∃ q, q ∉ (S n : Set P) := by
    by_contra h
    push Not at h
    have h1 : S n = Finset.univ := Finset.eq_univ_of_forall fun q => Finset.mem_coe.1 (h q)
    have h2 := Finset.card_image_le (s := Finset.range n) (f := τ)
    rw [show (Finset.range n).image τ = Finset.univ from h1, Finset.card_univ, Finset.card_range] at h2
    omega
  have main (n : ℕ) (hn : n ≤ k) : (∀ p, p ∉ (S n : Set P) → u n p = v p) ∧ (∀ p, p ∈ (S n : Set P) → u n p < 0) := by
    induction n with
    | zero => exact ⟨fun p _ => h0 p, fun p hp => by simp [S] at hp⟩
    | succ n ih =>
      obtain ⟨a, b⟩ := ih (by omega)
      obtain ⟨p, hp, -, -, hM, hW⟩ := step v g hv hg hinj (S n) (hS n (by omega)) (u n) a b (M n) (W n) (hle n) (hmem n) (hle' n) (hmem' n)
      have hpτ : τ n = p := by rw [hτ]; simp only; rw [hW, inv]
      have hSs (q : P) : q ∈ (S (n + 1) : Set P) ↔ q = p ∨ q ∈ (S n : Set P) := by
        simp only [S, Finset.range_add_one, Finset.image_insert, hpτ, Finset.coe_insert, Set.mem_insert_iff]
      refine ⟨fun q hq => ?_, fun q hq => ?_⟩
      · rw [hSs] at hq
        push Not at hq
        rw [hkeep n q (fun e => hq.1 (hinj (e.trans hW))), a q hq.2]
      · rcases (hSs q).1 hq with rfl | hq
        · exact hkill n q hW.symm hM
        · by_cases e : g q = W n
          · have : q = p := hinj (e.trans hW)
            exact absurd (this ▸ hq) hp
          · rw [hkeep n q e]; exact b q hq
  have fact (n : ℕ) (hn : n < k) : τ n ∉ (S n : Set P) ∧ (∀ q, q ∉ (S n : Set P) → q ≠ τ n → Before v (fun p => (g p).toNat) (τ n) q)
      ∧ M n = v (τ n) ∧ W n = g (τ n) := by
    obtain ⟨a, b⟩ := main n hn.le
    obtain ⟨p, hp, hB, hM, -, hW⟩ := step v g hv hg hinj (S n) (hS n hn) (u n) a b (M n) (W n) (hle n) (hmem n) (hle' n) (hmem' n)
    have hpτ : τ n = p := by rw [hτ]; simp only; rw [hW, inv]
    rw [hpτ]
    exact ⟨hp, hB, hM, hW⟩
  have notMem (i n : ℕ) (h : n ≤ i) (hi : i < k) : τ i ∉ (S n : Set P) := fun hm => (fact i hi).1 (by
    simp only [S, Finset.coe_image, Finset.coe_range, Set.mem_image, Set.mem_Iio] at hm ⊢
    obtain ⟨x, hx, e⟩ := hm
    exact ⟨x, by omega, e⟩)
  have ne (i j : ℕ) (h : i < j) (hj : j < k) : τ i ≠ τ j := fun e => (fact j hj).1 (by
    simp only [S, Finset.coe_image, Finset.coe_range, Set.mem_image, Set.mem_Iio]
    exact ⟨i, h, e⟩)
  refine ⟨fun n => τ n.val, fun n => ⟨(fact n n.2).2.2.1, (fact n n.2).2.2.2⟩, ?_, ?_, ?_⟩
  · intro i j e
    rcases lt_trichotomy i.val j.val with h | h | h
    · exact absurd e (ne i j h j.2)
    · exact Fin.ext h
    · exact absurd e.symm (ne j i h i.2)
  · intro i j h
    exact (fact i i.2).2.1 _ (notMem j i (le_of_lt h) j.2) (ne i j h j.2).symm
  · intro i p hp
    refine (fact i i.2).2.1 p (fun hm => ?_) (hp i).symm
    simp only [S, Finset.coe_image, Finset.coe_range, Set.mem_image, Set.mem_Iio] at hm
    obtain ⟨x, hx, e⟩ := hm
    exact hp ⟨x, by omega⟩ e

/-- The merge: the positions are split into blocks, each block's first `k` are known, and the first `k` of these
    candidates are taken. They are the first `k` of all. -/
theorem merge_top {Q : Type} {v : Q → EReal} {g : Q → ℕ} {β : Type} {k : ℕ} (R : β → Type) (at_ : (b : β) → R b → Q)
    (cover : ∀ q, ∃ b r, at_ b r = q) (cand : (b : β) → Fin k → R b)
    (hcand : ∀ b, Top (fun r r' => Before v g (at_ b r) (at_ b r')) (cand b))
    (hinj : Function.Injective fun x : β × Fin k => at_ x.1 (cand x.1 x.2)) (τ : Fin k → β × Fin k)
    (hτ : Top (fun x y => Before v g (at_ x.1 (cand x.1 x.2)) (at_ y.1 (cand y.1 y.2))) τ) :
    Top (Before v g) fun n => at_ (τ n).1 (cand (τ n).1 (τ n).2) := by
  classical
  refine ⟨fun i j e => hτ.inj (hinj e), hτ.ord, fun i q hq => ?_⟩
  obtain ⟨b, r, rfl⟩ := cover q
  by_cases hr : ∃ j, cand b j = r
  · obtain ⟨j, rfl⟩ := hr
    exact hτ.dom i (b, j) fun j' e => hq j' (by rw [e])
  · push Not at hr
    have hall (j : Fin k) : Before v g (at_ b (cand b j)) (at_ b r) := (hcand b).dom j r hr
    by_cases hb : ∃ j, ∀ n, τ n ≠ (b, j)
    · obtain ⟨j, hj⟩ := hb
      exact Before.trans (hτ.dom i (b, j) hj) (hall j)
    · push Not at hb
      choose f hf using hb
      have hfi : Function.Injective f := fun j j' e => by
        have := (hf j).symm.trans ((congrArg τ e).trans (hf j'))
        exact (Prod.ext_iff.1 this).2
      obtain ⟨j, rfl⟩ := (Finite.injective_iff_surjective.1 hfi) i
      have := hall j
      rw [hf j]
      exact this

end Cert.Select
-- ==== Proof.BlockSteps.lean ====
/-
The sixteen selection steps of the score kernel's block: each takes the greatest score, the least index word among
those that have it, and puts -1 in its place.
-/
module

public import proofs.«01_k».proof.Proof.Gen.KernelIdeal.Frame
public import proofs.«01_k».proof.Proof.Extremes
public import proofs.«01_k».proof.Proof.Select

@[expose] public section

set_option maxRecDepth 16384

noncomputable section

namespace Cert.KernelIdeal.Value

open Idealize.ShloMosaic Idealize.ShloMosaic.TcCoe Idealize.ShloMosaic.Tactic
open Cert.KernelIdeal.Gen Cert.Extremes Cert.Select

/-- The index words of the entries equal to the greatest, a large word elsewhere. -/
def chosen (g : IVec S8x8192 32) (v : FVec Ideal S8x8192 .f32) : IVec S8x8192 32 :=
  select (cmpf .oeq v (broadcast S8x8192 (k1_pay7 v))) g (broadcast S8x8192 2147483647#32)

/-- The least index word among the entries equal to the greatest. -/
def topIdx (g : IVec S8x8192 32) (v : FVec Ideal S8x8192 .f32) : BitVec 32 :=
  extractAt ![0, 0, 0] (shapeCast S1x1x1 (multiReductionI .minsi [1, 2] S1 (shapeCast S1x8x8192 (chosen g v) shapeCasts_S8x8192_S1x8x8192)
    2147483647#32 reduces_S1x8x8192_S1 rfl) shapeCasts_S1_S1x1x1) inpos_S1x1x1_p0_0_0

/-- The array with -1 in the place of what was taken. -/
def rest (g : IVec S8x8192 32) (v : FVec Ideal S8x8192 .f32) : FVec Ideal S8x8192 .f32 :=
  select (cmpi .eq g (broadcast S8x8192 (topIdx g v))) (broadcast S8x8192 (Scalar.ofBits .f32 0xBF800000#32)) v

/-- A row of sixteen lanes with one lane overwritten. -/
def setLane {α : Type} (lane : IVec S1x16 32) (n : BitVec 32) (a : α) (row : S1x16.Idx → α) : S1x16.Idx → α :=
  select (cmpi .eq lane (broadcast S1x16 n)) (broadcast S1x16 a) row

/-- The one multi-index of a vector of one element. -/
theorem idx_one (i j : S1.Idx) : i = j := by
  funext a
  have := (i a).isLt
  have := (j a).isLt
  fin_cases a
  exact Fin.ext (by simp at *)

/-- Reading the one number of a reduced vector. -/
theorem extract_one {α : Type} (x : S1.Idx → α) (h : S1.ShapeCasts S1x1x1) (h') :
    ∃ j, extractAt ![0, 0, 0] (shapeCast S1x1x1 x h) h' = x j := ⟨_, rfl⟩

/-- The greatest element of a block of numbers is at least every element, and is one of them. -/
theorem greatest_one (src : FVec Ideal S1x8x8192 .f32) :
    (∀ i, src i ≤ extractAt ![0, 0, 0] (shapeCast S1x1x1 (multiReduction .maximumf [1, 2] S1 src 0xFF800000#32 reduces_S1x8x8192_S1
      (.inl rfl) rfl) shapeCasts_S1_S1x1x1) inpos_S1x1x1_p0_0_0)
    ∧ (extractAt ![0, 0, 0] (shapeCast S1x1x1 (multiReduction .maximumf [1, 2] S1 src 0xFF800000#32 reduces_S1x8x8192_S1
      (.inl rfl) rfl) shapeCasts_S1_S1x1x1) inpos_S1x1x1_p0_0_0 = (⊥ : EReal)
      ∨ ∃ i, extractAt ![0, 0, 0] (shapeCast S1x1x1 (multiReduction .maximumf [1, 2] S1 src 0xFF800000#32 reduces_S1x8x8192_S1
      (.inl rfl) rfl) shapeCasts_S1_S1x1x1) inpos_S1x1x1_p0_0_0 = src i) := by
  obtain ⟨j, hj⟩ := extract_one (multiReduction .maximumf [1, 2] S1 src 0xFF800000#32 reduces_S1x8x8192_S1
      (.inl rfl) rfl) shapeCasts_S1_S1x1x1 inpos_S1x1x1_p0_0_0
  rw [hj]
  exact max_spec src reduces_S1x8x8192_S1 (.inl rfl) rfl j fun i => idx_one _ _

/-- The least element of a block of words is at most every element, and is one of them. -/
theorem least_one (src : IVec S1x8x8192 32) :
    (∀ i, (extractAt ![0, 0, 0] (shapeCast S1x1x1 (multiReductionI .minsi [1, 2] S1 src 2147483647#32 reduces_S1x8x8192_S1 rfl)
      shapeCasts_S1_S1x1x1) inpos_S1x1x1_p0_0_0).toInt ≤ (src i).toInt)
    ∧ (extractAt ![0, 0, 0] (shapeCast S1x1x1 (multiReductionI .minsi [1, 2] S1 src 2147483647#32 reduces_S1x8x8192_S1 rfl)
      shapeCasts_S1_S1x1x1) inpos_S1x1x1_p0_0_0 = 2147483647#32
      ∨ ∃ i, extractAt ![0, 0, 0] (shapeCast S1x1x1 (multiReductionI .minsi [1, 2] S1 src 2147483647#32 reduces_S1x8x8192_S1 rfl)
      shapeCasts_S1_S1x1x1) inpos_S1x1x1_p0_0_0 = src i) := by
  obtain ⟨j, hj⟩ := extract_one (multiReductionI .minsi [1, 2] S1 src 2147483647#32 reduces_S1x8x8192_S1 rfl)
      shapeCasts_S1_S1x1x1 inpos_S1x1x1_p0_0_0
  rw [hj]
  exact min_spec src reduces_S1x8x8192_S1 rfl j fun i => idx_one _ _

/-- A block of rows seen with one more axis in front. -/
theorem cast_at {α : Type} (v : S8x8192.Idx → α) (i : S1x8x8192.Idx) :
    (shapeCast S1x8x8192 v shapeCasts_S8x8192_S1x8x8192) i = v (ix2 (i 1) (i 2)) := by
  idx_vars i
  pointwise

/-- The greatest entry is at least every entry, and is one of them. -/
theorem topVal_spec (v : FVec Ideal S8x8192 .f32) :
    (∀ s p, v (ix2 s p) ≤ k1_pay7 v) ∧ (k1_pay7 v = (⊥ : EReal) ∨ ∃ s p, k1_pay7 v = v (ix2 s p)) := by
  obtain ⟨a, b⟩ := greatest_one (shapeCast S1x8x8192 v shapeCasts_S8x8192_S1x8x8192)
  simp only [cast_at] at a b
  exact ⟨fun s p => a (ix3 0 s p), b.imp id fun ⟨i, e⟩ => ⟨i 1, i 2, e⟩⟩

/-- The chosen index words, entry by entry. -/
theorem chosen_at (g : IVec S8x8192 32) (v : FVec Ideal S8x8192 .f32) (s : Fin 8) (p : Fin 8192) :
    chosen g v (ix2 s p) = if v (ix2 s p) = k1_pay7 v then g (ix2 s p) else 2147483647#32 := by
  unfold chosen
  generalize k1_pay7 v = M
  pointwise

/-- The least index word among the greatest entries: at most each of theirs, and one of them. -/
theorem topIdx_spec (g : IVec S8x8192 32) (v : FVec Ideal S8x8192 .f32) :
    (∀ s p, v (ix2 s p) = k1_pay7 v → (topIdx g v).toInt ≤ (g (ix2 s p)).toInt)
    ∧ (topIdx g v = 2147483647#32 ∨ ∃ s p, v (ix2 s p) = k1_pay7 v ∧ topIdx g v = g (ix2 s p)) := by
  obtain ⟨a, b⟩ := least_one (shapeCast S1x8x8192 (chosen g v) shapeCasts_S8x8192_S1x8x8192)
  simp only [cast_at] at a b
  refine ⟨fun s p e => (a (ix3 0 s p)).trans (le_of_eq ?_), ?_⟩
  · have := chosen_at g v s p
    rw [if_pos e] at this
    exact congrArg BitVec.toInt this
  · rcases b with e | ⟨i, e⟩
    · exact Or.inl e
    · have h1 := chosen_at g v (i 1) (i 2)
      split_ifs at h1 with h
      · exact Or.inr ⟨i 1, i 2, h, e.trans h1⟩
      · exact Or.inl (e.trans h1)

/-- What remains after a step. -/
theorem rest_at (g : IVec S8x8192 32) (v : FVec Ideal S8x8192 .f32) (s : Fin 8) (p : Fin 8192) :
    rest g v (ix2 s p) = if g (ix2 s p) = topIdx g v then Ideal.ofBits .f32 0xBF800000#32 else v (ix2 s p) := by
  have e : rest g v (ix2 s p) = Scalar.select (IntOp.cmpi .eq (g (ix2 s p)) (topIdx g v)) (Ideal.ofBits .f32 0xBF800000#32)
      (v (ix2 s p)) := by
    unfold rest
    generalize topIdx g v = W
    pointwise
  rw [e]
  by_cases h : g (ix2 s p) = topIdx g v
  · simp [h, Scalar.select, IntOp.cmpi]
  · simp [h, beq_eq_false_iff_ne.mpr h, Scalar.select, IntOp.cmpi]

/-- A row with one lane overwritten, lane by lane. -/
theorem setLane_at {α : Type} (n k : Fin 16) (a : α) (row : S1x16.Idx → α) :
    setLane (iota .tc S1x16 32 [1] iota_S1x16_d1_w32) (BitVec.ofNat 32 n.val) a row (ix2 0 k) = if k = n then a else row (ix2 0 k) := by
  have e : setLane (iota .tc S1x16 32 [1] iota_S1x16_d1_w32) (BitVec.ofNat 32 n.val) a row (ix2 0 k)
      = Scalar.select (IntOp.cmpi .eq (BitVec.ofNat 32 k.val) (BitVec.ofNat 32 n.val)) a (row (ix2 0 k)) := by pointwise [setLane]
  rw [e]
  by_cases h : k = n
  · simp [h, Scalar.select, IntOp.cmpi]
  · have : BitVec.ofNat 32 k.val ≠ BitVec.ofNat 32 n.val := fun h' => h (Fin.ext (by
      have := congrArg BitVec.toNat h'
      simp at this; omega))
    simp [h, beq_eq_false_iff_ne.mpr this, Scalar.select, IntOp.cmpi]

end Cert.KernelIdeal.Value
-- ==== Proof.BlockRows.lean ====
/-
The two rows of sixteen lanes a block of the score kernel writes: the greatest scores in order and their index words.
-/
module

public import proofs.«01_k».proof.Proof.BlockSteps

@[expose] public section

set_option maxRecDepth 16384

noncomputable section

namespace Cert.KernelIdeal.Value

open Idealize.ShloMosaic Idealize.ShloMosaic.TcCoe Idealize.ShloMosaic.Tactic
open Cert.KernelIdeal.Gen Cert.Extremes Cert.Select

/-- What is left after `n` steps. -/
def left (g : IVec S8x8192 32) (v : FVec Ideal S8x8192 .f32) : ℕ → FVec Ideal S8x8192 .f32
  | 0 => v
  | n + 1 => rest g (left g v n)

/-- A row whose first `n` lanes are `T 0`, …, `T (n - 1)`. -/
def fill {α : Type} (lane : IVec S1x16 32) (T : ℕ → α) (z : S1x16.Idx → α) : ℕ → S1x16.Idx → α
  | 0 => z
  | n + 1 => setLane lane (BitVec.ofNat 32 n) (T n) (fill lane T z n)

/-- The lanes of a filled row. -/
theorem fill_at {α : Type} (T : ℕ → α) (z : S1x16.Idx → α) (n : ℕ) (hn : n ≤ 16) (k : Fin 16) (hk : k.val < n) :
    fill (iota .tc S1x16 32 [1] iota_S1x16_d1_w32) T z n (ix2 0 k) = T k := by
  induction n with
  | zero => omega
  | succ n ih =>
    refine (setLane_at ⟨n, by omega⟩ k (T n) _).trans ?_
    by_cases h : k.val = n
    · rw [if_pos (Fin.ext h), h]
    · rw [if_neg fun h' => h (congrArg Fin.val h')]
      exact ih (by omega) (by omega)

section
variable (g : IVec S8x8192 32) (lane : IVec S1x16 32) (v : FVec Ideal S8x8192 .f32) (r : FVec Ideal S1x16 .f32)

/-- The array of scores after the first pair of steps is two steps further. -/
theorem two_a : k1_pay12 v g = rest g (rest g v) := rfl
/-- The array of scores after the second pair of steps is two steps further. -/
theorem two_b : k1_pay19 g v = rest g (rest g v) := rfl
/-- The array of scores after the third pair of steps is two steps further. -/
theorem two_c : k1_pay26 g v = rest g (rest g v) := rfl
/-- The array of scores after the fourth pair of steps is two steps further. -/
theorem two_d : k1_pay33 g v = rest g (rest g v) := rfl
/-- The array of scores after the fifth pair of steps is two steps further. -/
theorem two_e : k1_pay40 g v = rest g (rest g v) := rfl
/-- The array of scores after the sixth pair of steps is two steps further. -/
theorem two_f : k1_pay47 g v = rest g (rest g v) := rfl
/-- The array of scores after the seventh pair of steps is two steps further. -/
theorem two_g : k1_pay54 g v = rest g (rest g v) := rfl

/-- The scores a pair of steps writes. -/
def pairVals (n : BitVec 32) (m : BitVec 32) : FVec Ideal S1x16 .f32 :=
  setLane lane m (k1_pay7 (rest g v)) (setLane lane n (k1_pay7 v) r)

/-- The row of scores after the first pair of steps. -/
theorem vals_a : k1_pay13 v g = pairVals g (iota .tc S1x16 32 [1] iota_S1x16_d1_w32) v (broadcast S1x16 (Scalar.ofBits .f32 0x00000000#32)) 0#32 1#32 := rfl
/-- The row of scores after the second pair of steps. -/
theorem vals_b : k1_pay20 g lane v r = pairVals g lane v r 2#32 3#32 := rfl
/-- The row of scores after the third pair of steps. -/
theorem vals_c : k1_pay27 g lane v r = pairVals g lane v r 4#32 5#32 := rfl
/-- The row of scores after the fourth pair of steps. -/
theorem vals_d : k1_pay34 g lane v r = pairVals g lane v r 6#32 7#32 := rfl
/-- The row of scores after the fifth pair of steps. -/
theorem vals_e : k1_pay41 g lane v r = pairVals g lane v r 8#32 9#32 := rfl
/-- The row of scores after the sixth pair of steps. -/
theorem vals_f : k1_pay48 g lane v r = pairVals g lane v r 10#32 11#32 := rfl
/-- The row of scores after the seventh pair of steps. -/
theorem vals_g : k1_pay55 g lane v r = pairVals g lane v r 12#32 13#32 := rfl
/-- The row of scores after the eighth pair of steps. -/
theorem vals_h : k1_pay59 g lane v r = pairVals g lane v r 14#32 15#32 := rfl

/-- The index words a pair of steps writes: the one the step before found, and its own first. -/
def pairIdx (row : IVec S1x16 32) (w : BitVec 32) (n m : BitVec 32) : IVec S1x16 32 :=
  setLane lane m (topIdx g v) (setLane lane n w row)

variable (row : IVec S1x16 32) (w : BitVec 32)

/-- The row of index words at the first pair of steps. -/
theorem idx_a : k1_pay9 v g = setLane (iota .tc S1x16 32 [1] iota_S1x16_d1_w32) 0#32 (topIdx g v) (broadcast S1x16 0#32) := rfl
/-- The row of index words at the second pair of steps. -/
theorem idx_b : k1_pay16 g lane row w v = pairIdx g lane v row w 1#32 2#32 := rfl
/-- The row of index words at the third pair of steps. -/
theorem idx_c : k1_pay23 g lane row w v = pairIdx g lane v row w 3#32 4#32 := rfl
/-- The row of index words at the fourth pair of steps. -/
theorem idx_d : k1_pay30 g lane row w v = pairIdx g lane v row w 5#32 6#32 := rfl
/-- The row of index words at the fifth pair of steps. -/
theorem idx_e : k1_pay37 g lane row w v = pairIdx g lane v row w 7#32 8#32 := rfl
/-- The row of index words at the sixth pair of steps. -/
theorem idx_f : k1_pay44 g lane row w v = pairIdx g lane v row w 9#32 10#32 := rfl
/-- The row of index words at the seventh pair of steps. -/
theorem idx_g : k1_pay51 g lane row w v = pairIdx g lane v row w 11#32 12#32 := rfl
/-- The row of index words at the eighth pair of steps. -/
theorem idx_h : k1_pay60 g lane row w v = setLane lane 15#32 (topIdx g (rest g v)) (pairIdx g lane v row w 13#32 14#32) := rfl
/-- The index word the first pair of steps finds last, and the next writes. -/
theorem next_a : extractAt ![0, 0, 0] (k1_pay11 v g) inpos_S1x1x1_p0_0_0 = topIdx g (rest g v) := rfl
/-- The index word the second pair of steps finds last, and the next writes. -/
theorem next_b : extractAt ![0, 0, 0] (k1_pay18 g v) inpos_S1x1x1_p0_0_0 = topIdx g (rest g v) := rfl
/-- The index word the third pair of steps finds last, and the next writes. -/
theorem next_c : extractAt ![0, 0, 0] (k1_pay25 g v) inpos_S1x1x1_p0_0_0 = topIdx g (rest g v) := rfl
/-- The index word the fourth pair of steps finds last, and the next writes. -/
theorem next_d : extractAt ![0, 0, 0] (k1_pay32 g v) inpos_S1x1x1_p0_0_0 = topIdx g (rest g v) := rfl
/-- The index word the fifth pair of steps finds last, and the next writes. -/
theorem next_e : extractAt ![0, 0, 0] (k1_pay39 g v) inpos_S1x1x1_p0_0_0 = topIdx g (rest g v) := rfl
/-- The index word the sixth pair of steps finds last, and the next writes. -/
theorem next_f : extractAt ![0, 0, 0] (k1_pay46 g v) inpos_S1x1x1_p0_0_0 = topIdx g (rest g v) := rfl
/-- The index word the seventh pair of steps finds last, and the next writes. -/
theorem next_g : extractAt ![0, 0, 0] (k1_pay53 g v) inpos_S1x1x1_p0_0_0 = topIdx g (rest g v) := rfl

end

/-- The row of scores: the greatest of what is left after each step. -/
theorem values_row (i : grid1.Coords) (x0 : Vec Ideal S1x24x65536 .f32) (x1 x2 x3 : Vec Ideal S24x1 .f32) (x4 : Vec Ideal S1x1 .f32) :
    ∃ z, out1_6 i x0 x1 x2 x3 x4 = View.canon [⟨r1_4, k1_pay1 (fill (iota .tc S1x16 32 [1] iota_S1x16_d1_w32)
      (fun n => k1_pay7 (left (k1_pay6 i) (k1_pay61 i x0 x1 x2 x3 x4) n)) z 16)⟩] := by
  refine ⟨broadcast S1x16 (Scalar.ofBits .f32 0x00000000#32), ?_⟩
  unfold out1_6 k1_pay70 k1_pay69 k1_pay68 k1_pay67 k1_pay66 k1_pay65 k1_pay64 k1_pay63 k1_pay62
  simp only [fill, left, two_a, two_b, two_c, two_d, two_e, two_f, two_g, vals_a, vals_b, vals_c, vals_d, vals_e, vals_f, vals_g, vals_h, pairVals]

/-- The row of index words: the least word among the greatest of what is left after each step. -/
theorem indices_row (i : grid1.Coords) (x0 : Vec Ideal S1x24x65536 .f32) (x1 x2 x3 : Vec Ideal S24x1 .f32) (x4 : Vec Ideal S1x1 .f32) :
    ∃ z, out1_7 i x0 x1 x2 x3 x4 = View.canon [⟨r1_4, k1_pay2 (fill (iota .tc S1x16 32 [1] iota_S1x16_d1_w32)
      (fun n => topIdx (k1_pay6 i) (left (k1_pay6 i) (k1_pay61 i x0 x1 x2 x3 x4) n)) z 16)⟩] := by
  refine ⟨broadcast S1x16 0#32, ?_⟩
  unfold out1_7 k1_pay70 k1_pay69 k1_pay68 k1_pay67 k1_pay66 k1_pay65 k1_pay64 k1_pay63 k1_pay62
  simp only [fill, left, two_a, two_b, two_c, two_d, two_e, two_f, two_g, idx_a, idx_b, idx_c, idx_d, idx_e, idx_f, idx_g, idx_h, next_a,
    next_b, next_c, next_d, next_e, next_f, next_g, pairIdx]

/-- The index word of an element of block `i`. -/
theorem word_at (i : grid1.Coords) (s : Fin 8) (p : Fin 8192) :
    k1_pay6 i (ix2 s p) = BitVec.ofNat 32 (65536 * (i 1).val + (8192 * s.val + p.val)) := by
  have hi : (i 1).val < 4 := (i 1).isLt
  have e : k1_pay6 i (ix2 s p) = IntOp.addi (IntOp.addi (IntOp.muli (BitVec.ofNat 32 s.val) 8192#32) (BitVec.ofNat 32 p.val))
      (Scalar.muli (BitVec.ofNat 32 (i 1).val) 65536#32) := by
    pointwise [k1_pay6]
  rw [e]
  show BitVec.ofNat 32 s.val * 8192#32 + BitVec.ofNat 32 p.val + BitVec.ofNat 32 (i 1).val * 65536#32 = _
  rw [← BitVec.toNat_inj]
  simp only [BitVec.toNat_add, BitVec.toNat_mul, BitVec.toNat_ofNat]
  omega

/-- Element `q` of a block's array of eight rows. -/
def lane8 (q : Fin 65536) : S8x8192.Idx := ix2 (⟨q.val / 8192, by omega⟩ : Fin 8) (⟨q.val % 8192, by omega⟩ : Fin 8192)

/-- Each row and column is an element. -/
theorem lane8_of (s : Fin 8) (p : Fin 8192) : lane8 ⟨8192 * s.val + p.val, by omega⟩ = ix2 s p := by
  unfold lane8
  congr 1 <;> exact Fin.ext (by simp only; omega)

/-- The sixteen steps on a block of non-negative scores give its sixteen first elements in the order: greater score
    first, among equal scores the smaller index. -/
theorem block_top (i : grid1.Coords) (v : FVec Ideal S8x8192 .f32) (hv : ∀ q, (0 : EReal) ≤ v (lane8 q)) :
    ∃ σ : Fin 16 → Fin 65536,
      (∀ n, k1_pay7 (left (k1_pay6 i) v n.val) = v (lane8 (σ n))
        ∧ topIdx (k1_pay6 i) (left (k1_pay6 i) v n.val) = BitVec.ofNat 32 (65536 * (i 1).val + (σ n).val))
      ∧ Top (Before (fun q => (v (lane8 q) : EReal)) fun q => 65536 * (i 1).val + q.val) σ := by
  have hi : (i 1).val < 4 := (i 1).isLt
  have hw (q : Fin 65536) : k1_pay6 i (lane8 q) = BitVec.ofNat 32 (65536 * (i 1).val + q.val) := by
    refine (word_at i _ _).trans (congrArg _ ?_)
    simp only; omega
  have hn (q : Fin 65536) : (k1_pay6 i (lane8 q)).toNat = 65536 * (i 1).val + q.val := by
    rw [hw, BitVec.toNat_ofNat]; omega
  obtain ⟨σ, h, t⟩ := select_top (fun q => (v (lane8 q) : EReal)) (fun q => k1_pay6 i (lane8 q)) hv
    (fun q => by show (k1_pay6 i (lane8 q)).toNat < _; rw [hn]; omega)
    (fun q q' e => Fin.ext (by have := congrArg BitVec.toNat e; simp only [hn] at this; omega)) 16 (by simp)
    (fun n q => (left (k1_pay6 i) v n (lane8 q) : EReal)) (fun n => k1_pay7 (left (k1_pay6 i) v n))
    (fun n => topIdx (k1_pay6 i) (left (k1_pay6 i) v n)) (fun _ => rfl) (fun n q => (topVal_spec (left (k1_pay6 i) v n)).1 _ _)
    (fun n => (topVal_spec (left (k1_pay6 i) v n)).2.imp id fun ⟨s, p, e⟩ => ⟨_, by rw [lane8_of s p]; exact e⟩)
    (fun n q => (topIdx_spec (k1_pay6 i) (left (k1_pay6 i) v n)).1 _ _)
    (fun n => (topIdx_spec (k1_pay6 i) (left (k1_pay6 i) v n)).2.imp id fun ⟨s, p, e⟩ => ⟨_, by rw [lane8_of s p]; exact e⟩)
    (fun n q e => (rest_at (k1_pay6 i) (left (k1_pay6 i) v n) _ _).trans (if_neg e))
    (fun n q e _ => ((rest_at (k1_pay6 i) (left (k1_pay6 i) v n) _ _).trans (if_pos e)).trans_lt ofBits_negOne)
  refine ⟨σ, fun n => ⟨(h n).1, (h n).2.trans (hw _)⟩, ?_⟩
  simpa only [hn] using t

end Cert.KernelIdeal.Value
-- ==== Proof.ScoreArray.lean ====
/-
What the three arrays of the score kernel hold after its eight grid points: the score of every pixel, and per quarter
of the image the sixteen first scores and their pixel numbers.
-/
module

public import proofs.«01_k».proof.Proof.BlockRows

@[expose] public section

set_option maxRecDepth 16384

noncomputable section

namespace Cert.KernelIdeal.Value

open Idealize.ShloMosaic Idealize.ShloMosaic.TcCoe Idealize.ShloMosaic.Tactic
open Cert.KernelIdeal.Gen Cert.Extremes Cert.Select

variable (V : (c : Dev nD) → (b : Ref sig .tc) → Buf (Elt Ideal) ((c : Thread nD τ).loc b))

/-- The score from its ingredients: the logistic function of the second layer over the rectified, scaled and shifted
    channels. -/
def scoreOf (h scale shift w : Fin 24 → EReal) (bias : EReal) : EReal :=
  Ideal.logistic ((∑ o, max (h o * scale o + shift o) 0 * w o) + bias)

/-- The score of pixel `p` of batch element `b`, of what the kernel finds. -/
def score (c : Dev nD) (b : Fin 2) (p : Fin 262144) : EReal :=
  scoreOf (fun o => V c main_v3_0 (ix3 b o p)) (fun o => V c main_v22 (ix2 o 0)) (fun o => V c main_v23 (ix2 o 0))
    (fun o => V c main_v24 (ix2 o 0)) (V c main_v25 (ix2 0 0))

/-- The scores of quarter `k` of batch element `b` in eight rows. -/
def scores (c : Dev nD) (b : Fin 2) (k : Fin 4) : FVec Ideal S8x8192 .f32 :=
  fun j => score V c b ⟨65536 * k.val + (8192 * (j 0).val + (j 1).val), by
    have h0 : (j 0).val < 8 := (j 0).isLt
    have h1 : (j 1).val < 8192 := (j 1).isLt
    omega⟩

/-- The pixel numbers of quarter `k` in eight rows. -/
def words (k : Fin 4) : IVec S8x8192 32 :=
  fun j => BitVec.ofNat 32 (65536 * k.val + (8192 * (j 0).val + (j 1).val))

/-- The block indices of the eight windows at a grid point. -/
theorem idx1 : ∀ t : Fin cfg1.N,
    (cfg1.win 0).index t = ![(grid1.coords t 0).val, 0, (grid1.coords t 1).val]
    ∧ (cfg1.win 1).index t = ![0, 0] ∧ (cfg1.win 2).index t = ![0, 0] ∧ (cfg1.win 3).index t = ![0, 0]
    ∧ (cfg1.win 4).index t = ![0, 0]
    ∧ (cfg1.win 5).index t = ![(grid1.coords t 0).val, 0, (grid1.coords t 1).val]
    ∧ (cfg1.win 6).index t = ![(grid1.coords t 0).val, (grid1.coords t 1).val, 0, 0]
    ∧ (cfg1.win 7).index t = ![(grid1.coords t 0).val, (grid1.coords t 1).val, 0, 0] := by decide +kernel

/-- The body's pixel numbers. -/
theorem words_eq (i : grid1.Coords) : k1_pay6 i = words (i 1) := by
  funext j
  idx_vars j
  exact word_at i j0 j1

/-- The body's score at lane `p` of its block. -/
theorem score_at (x0 : Vec Ideal S1x24x65536 .f32) (x1 x2 x3 : Vec Ideal S24x1 .f32) (x4 : Vec Ideal S1x1 .f32) (p : Fin 65536) :
    k1_pay3 x0 x1 x2 x3 x4 (ix2 0 p)
      = scoreOf (fun o => x0 (ix3 0 o p)) (fun o => x1 (ix2 o 0)) (fun o => x2 (ix2 o 0)) (fun o => x3 (ix2 o 0)) (x4 (ix2 0 0)) := by
  pointwise [k1_pay3, scoreOf]

/-- The same at grid point `t`: the score of lane 65536·k + p, `k` being the quarter. -/
theorem point_at (c : Dev nD) (t : Fin cfg1.N) (p : Fin 65536) :
    k1_pay3 (iblk1 V c 0 t) (iblk1 V c 1 t) (iblk1 V c 2 t) (iblk1 V c 3 t) (iblk1 V c 4 t) (ix2 0 p)
      = score V c (grid1.coords t 0) ⟨65536 * (grid1.coords t 1).val + p.val, by
          have : (grid1.coords t 1).val < 4 := (grid1.coords t 1).isLt
          omega⟩ := by
  obtain ⟨e0, e1, e2, e3, e4, -, -, -⟩ := idx1 t
  have h1 (o : Fin 24) : iblk1 V c 1 t (ix2 o 0) = V c main_v22 (ix2 o 0) := by blk_point [iblk1, e1]
  have h2 (o : Fin 24) : iblk1 V c 2 t (ix2 o 0) = V c main_v23 (ix2 o 0) := by blk_point [iblk1, e2]
  have h3 (o : Fin 24) : iblk1 V c 3 t (ix2 o 0) = V c main_v24 (ix2 o 0) := by blk_point [iblk1, e3]
  have h4 : iblk1 V c 4 t (ix2 0 0) = V c main_v25 (ix2 0 0) := by blk_point [iblk1, e4]
  have h0 (o : Fin 24) : iblk1 V c 0 t (ix3 0 o p) = V c main_v3_0 (ix3 (grid1.coords t 0) o ⟨65536 * (grid1.coords t 1).val + p.val, by
          have : (grid1.coords t 1).val < 4 := (grid1.coords t 1).isLt
          omega⟩) := by blk_point [iblk1, e0]
  rw [score_at]
  simp only [h0, h1, h2, h3, h4]
  rfl

/-- The body's scores in eight rows. -/
theorem scores_eq (c : Dev nD) (t : Fin cfg1.N) :
    k1_pay61 (grid1.coords t) (iblk1 V c 0 t) (iblk1 V c 1 t) (iblk1 V c 2 t) (iblk1 V c 3 t) (iblk1 V c 4 t)
      = scores V c (grid1.coords t 0) (grid1.coords t 1) := by
  have e : k1_pay61 (grid1.coords t) (iblk1 V c 0 t) (iblk1 V c 1 t) (iblk1 V c 2 t) (iblk1 V c 3 t) (iblk1 V c 4 t)
      = k1_pay5 (iblk1 V c 0 t) (iblk1 V c 1 t) (iblk1 V c 2 t) (iblk1 V c 3 t) (iblk1 V c 4 t) := by
    unfold k1_pay61
    frame_out
  rw [e]
  funext j
  idx_vars j
  have e' : k1_pay5 (iblk1 V c 0 t) (iblk1 V c 1 t) (iblk1 V c 2 t) (iblk1 V c 3 t) (iblk1 V c 4 t) (ix2 j0 j1)
      = k1_pay3 (iblk1 V c 0 t) (iblk1 V c 1 t) (iblk1 V c 2 t) (iblk1 V c 3 t) (iblk1 V c 4 t) (ix2 0 ⟨j0.val * 8192 + j1.val, by omega⟩) := by
    pointwise [k1_pay5]
  rw [e', point_at]
  refine congrArg _ (Fin.ext ?_)
  show _ = 65536 * _ + (8192 * j0.val + j1.val)
  simp only
  omega

/-- The array of scores after the region. -/
theorem score_array (c : Dev nD) :
    (dat1 V c).arrAt 5 cfg1.N = (fun y : S2x1x262144.Idx => score V c (y 0) (y 2)) := by
  refine (dat1 V c).arrAt_eq_of_covers 5 _ (by decide +kernel) fun t hf y => ?_
  blk_simp
  rw [after1_5]
  frame_out
  obtain ⟨-, -, -, -, -, e5, -, -⟩ := idx1 t
  idx_vars y
  pointwise [k1_pay4]
  rw [point_at]
  have h0 : ((View.whole main_v26_0).slice (win1_5.rect t)).emb (ix3 y0 y1 y2) 0 = grid1.coords t 0 :=
    Fin.ext (by blk_simp [e5])
  rw [h0]
  refine congrArg _ (Fin.ext ?_)
  show 65536 * (grid1.coords t 1).val + y2.val = _
  blk_simp [e5]
  omega

/-- The array of candidate scores after the region. -/
theorem value_array (c : Dev nD) :
    (dat1 V c).arrAt 6 cfg1.N = (fun y : S2x4x1x16.Idx => k1_pay7 (left (words (y 1)) (scores V c (y 0) (y 1)) (y 3).val)) := by
  refine (dat1 V c).arrAt_eq_of_covers 6 _ (by decide +kernel) fun t hf y => ?_
  blk_simp
  rw [after1_6]
  obtain ⟨z, hz⟩ := values_row (grid1.coords t) (iblk1 V c 0 t) (iblk1 V c 1 t) (iblk1 V c 2 t) (iblk1 V c 3 t) (iblk1 V c 4 t)
  rw [hz, scores_eq, words_eq]
  obtain ⟨-, -, -, -, -, -, e6, -⟩ := idx1 t
  frame_out
  idx_vars y
  have h0 : ((View.whole main_v26_1).slice (win1_6.rect t)).emb (ix4 y0 y1 y2 y3) 0 = grid1.coords t 0 :=
    Fin.ext (by blk_simp [e6])
  have h1 : ((View.whole main_v26_1).slice (win1_6.rect t)).emb (ix4 y0 y1 y2 y3) 1 = grid1.coords t 1 :=
    Fin.ext (by blk_simp [e6])
  have h3 : win1_6.index t 3 * 16 + y3.val = y3.val := by
    have : win1_6.index t 3 = 0 := by blk_simp [e6]
    omega
  rw [h0, h1, h3]
  pointwise [k1_pay1]
  exact fill_at _ z 16 le_rfl y3 y3.isLt

/-- The array of candidate pixel numbers after the region. -/
theorem index_array (c : Dev nD) :
    (dat1 V c).arrAt 7 cfg1.N = (fun y : S2x4x1x16.Idx => topIdx (words (y 1)) (left (words (y 1)) (scores V c (y 0) (y 1)) (y 3).val)) := by
  refine (dat1 V c).arrAt_eq_of_covers 7 _ (by decide +kernel) fun t hf y => ?_
  blk_simp
  rw [after1_7]
  obtain ⟨z, hz⟩ := indices_row (grid1.coords t) (iblk1 V c 0 t) (iblk1 V c 1 t) (iblk1 V c 2 t) (iblk1 V c 3 t) (iblk1 V c 4 t)
  rw [hz, scores_eq, words_eq]
  obtain ⟨-, -, -, -, -, -, -, e7⟩ := idx1 t
  frame_out
  idx_vars y
  have h0 : ((View.whole main_v26_2).slice (win1_7.rect t)).emb (ix4 y0 y1 y2 y3) 0 = grid1.coords t 0 :=
    Fin.ext (by blk_simp [e7])
  have h1 : ((View.whole main_v26_2).slice (win1_7.rect t)).emb (ix4 y0 y1 y2 y3) 1 = grid1.coords t 1 :=
    Fin.ext (by blk_simp [e7])
  have h3 : win1_7.index t 3 * 16 + y3.val = y3.val := by
    have : win1_7.index t 3 = 0 := by blk_simp [e7]
    omega
  rw [h0, h1, h3]
  pointwise [k1_pay2]
  exact fill_at _ z 16 le_rfl y3 y3.isLt

/-- A logistic value is not negative. -/
theorem logistic_nonneg (x : EReal) : 0 ≤ Ideal.logistic x := by
  have he (y : EReal) : 0 ≤ Ideal.exp y := by
    induction y with
    | bot => exact le_refl (0 : EReal)
    | top => exact le_top
    | coe r => exact EReal.coe_nonneg.2 (Real.exp_pos r).le
  have h : (0 : EReal) < 1 + Ideal.exp (-x) := lt_of_lt_of_le zero_lt_one (le_add_of_nonneg_right (he _))
  unfold Ideal.logistic Ideal.div
  rw [if_neg h.ne', one_mul]
  exact EReal.inv_nonneg_of_nonneg h.le

/-- The candidates of a quarter are its sixteen first pixels in the order. -/
theorem quarter_top (c : Dev nD) (b : Fin 2) (k : Fin 4) :
    ∃ σ : Fin 16 → Fin 65536,
      (∀ n : Fin 16, k1_pay7 (left (words k) (scores V c b k) n.val) = score V c b ⟨65536 * k.val + (σ n).val, by omega⟩
        ∧ topIdx (words k) (left (words k) (scores V c b k) n.val) = BitVec.ofNat 32 (65536 * k.val + (σ n).val))
      ∧ Top (Before (fun q : Fin 65536 => score V c b ⟨65536 * k.val + q.val, by omega⟩) fun q => 65536 * k.val + q.val) σ := by
  obtain ⟨t0, ht⟩ : ∃ t : Fin cfg1.N, grid1.coords t 1 = k := by
    have : ∀ k : Fin 4, ∃ t : Fin cfg1.N, (grid1.coords t 1).val = k.val := by decide +kernel
    exact (this k).imp fun t e => Fin.ext e
  have hk4 : k.val < 4 := k.isLt
  have hl (q : Fin 65536) : scores V c b k (lane8 q) = score V c b ⟨65536 * k.val + q.val, by omega⟩ := by
    refine congrArg (score V c b) (Fin.ext ?_)
    show 65536 * k.val + (8192 * (q.val / 8192) + q.val % 8192) = _
    simp only
    omega
  obtain ⟨σ, h, t⟩ := block_top (grid1.coords t0) (scores V c b k) fun q => by rw [hl]; exact logistic_nonneg _
  rw [words_eq, ht] at h
  rw [ht] at t
  simp only [hl] at h t
  exact ⟨σ, h, t⟩

end Cert.KernelIdeal.Value
-- ==== Proof.MergeSteps.lean ====
/-
The sixteen steps of the merge kernel on the 64 candidates of one batch element: each takes the greatest candidate
score, the least pixel number among those that have it, writes its column and row, and puts -1 in its place.
-/
module

public import proofs.«01_k».proof.Proof.BlockSteps
public import proofs.«01_k».proof.Proof.Words

@[expose] public section

set_option maxRecDepth 16384

noncomputable section

namespace Cert.KernelIdeal.Value

open Idealize.ShloMosaic Idealize.ShloMosaic.TcCoe Idealize.ShloMosaic.Tactic
open Cert.KernelIdeal.Gen Cert.Extremes Cert.Select Cert.Words

/-- The pixel numbers of the candidates equal to the greatest, a large word elsewhere. -/
def chosen2 (g : IVec S1x64 32) (v : FVec Ideal S1x64 .f32) : IVec S1x64 32 :=
  select (cmpf .oeq v (broadcast S1x64 (k2_pay10 v))) g (broadcast S1x64 2147483647#32)

/-- The least pixel number among the candidates equal to the greatest. -/
def topIdx2 (g : IVec S1x64 32) (v : FVec Ideal S1x64 .f32) : BitVec 32 :=
  extractAt ![0, 0, 0] (shapeCast S1x1x1 (multiReductionI .minsi [1, 2] S1 (shapeCast S1x1x64 (chosen2 g v) shapeCasts_S1x64_S1x1x64)
    2147483647#32 reduces_S1x1x64_S1 rfl) shapeCasts_S1_S1x1x1) inpos_S1x1x1_p0_0_0

/-- The candidates with -1 in the place of what was taken. -/
def rest2 (g : IVec S1x64 32) (v : FVec Ideal S1x64 .f32) : FVec Ideal S1x64 .f32 :=
  select (andi (cmpi .eq g (broadcast S1x64 (topIdx2 g v))) (cmpf .oeq v (broadcast S1x64 (k2_pay10 v))))
    (broadcast S1x64 (Scalar.ofBits .f32 0xBF800000#32)) v

/-- What is left after `n` steps. -/
def left2 (g : IVec S1x64 32) (v : FVec Ideal S1x64 .f32) : ℕ → FVec Ideal S1x64 .f32
  | 0 => v
  | n + 1 => rest2 g (left2 g v n)

/-- The remainder by 512 that takes the divisor's sign. -/
def modWord (w : BitVec 32) : BitVec 32 :=
  let d : BitVec 32 := Scalar.select (Scalar.cmpi .eq 512#32 0#32) 1#32 512#32
  let m : BitVec 32 := Scalar.remsi w d
  Scalar.select (Scalar.andi (Scalar.xori (Scalar.cmpi .slt m 0#32) (Scalar.cmpi .slt d 0#32)) (Scalar.cmpi .ne m 0#32)) (Scalar.addi m d) m

/-- The quotient by 512 rounded down. -/
def divWord (w : BitVec 32) : BitVec 32 :=
  let q : BitVec 32 := Scalar.divsi w 512#32
  Scalar.select (Scalar.andi
    (Scalar.cmpi .ne (Scalar.subi (Scalar.extui (Scalar.cmpi .sgt w 0#32) : BitVec 32) (Scalar.extui (Scalar.cmpi .slt w 0#32)))
      (Scalar.subi (Scalar.extui (Scalar.cmpi .sgt 512#32 0#32)) (Scalar.extui (Scalar.cmpi .slt 512#32 0#32))))
    (Scalar.cmpi .ne (Scalar.remsi w 512#32) 0#32)) (Scalar.subi q 1#32) q

/-- The table with column and row of pixel `w` written in lane `n`. -/
def put (lane line : IVec S8x128 32) (n w : BitVec 32) (row : FVec Ideal S8x128 .f32) : FVec Ideal S8x128 .f32 :=
  select (andi (cmpi .eq lane (broadcast S8x128 n)) (cmpi .eq line (broadcast S8x128 1#32)))
    (broadcast S8x128 (Scalar.sitofp (F := Ideal) .f32 (divWord w)))
    (select (andi (cmpi .eq lane (broadcast S8x128 n)) (cmpi .eq line (broadcast S8x128 0#32)))
      (broadcast S8x128 (Scalar.sitofp (F := Ideal) .f32 (modWord w))) row)

/-- A table whose first `n` lanes are the columns and rows of pixels `T 0`, …, `T (n - 1)`. -/
def table (lane line : IVec S8x128 32) (T : ℕ → BitVec 32) (z : FVec Ideal S8x128 .f32) : ℕ → FVec Ideal S8x128 .f32
  | 0 => z
  | n + 1 => put lane line (BitVec.ofNat 32 n) (T n) (table lane line T z n)

/-- The body writes the table of the sixteen pixels its steps find. -/
theorem table_out (x0 : Vec Ideal S1x1x64 .f32) (x1 : Vec Ideal S1x1x64 .i32) :
    ∃ z, out2_2 x0 x1 = View.canon [⟨r2_1, shapeCast S1x8x128 (table (iota .tc S8x128 32 [1] iota_S8x128_d1_w32) (iota .tc S8x128 32 [0] iota_S8x128_d0_w32)
      (fun n => topIdx2 (k2_pay3 (F := Ideal) (View.ld x1 r2_0)) (left2 (k2_pay3 (F := Ideal) (View.ld x1 r2_0)) (k2_pay2 (View.ld x0 r2_0)) n)) z 16) shapeCasts_S8x128_S1x8x128⟩] := by
  refine ⟨k2_pay4, ?_⟩
  unfold out2_2 k2_pay93 k2_pay94
  generalize hg : k2_pay3 (F := Ideal) (View.ld x1 r2_0) = g
  generalize hv : k2_pay2 (View.ld x0 r2_0) = v
  have e95 : k2_pay95 x0 x1 = g := hg
  have e96 : k2_pay96 x0 x1 = left2 g v 1 := by subst hg hv; rfl
  have e97 : k2_pay97 x0 x1 = left2 g v 2 := by unfold k2_pay97; rw [e95, e96]; rfl
  have e98 : k2_pay98 x0 x1 = left2 g v 3 := by unfold k2_pay98; rw [e95, e97]; rfl
  have e99 : k2_pay99 x0 x1 = left2 g v 4 := by unfold k2_pay99; rw [e95, e98]; rfl
  have e101 : k2_pay101 x0 x1 = left2 g v 5 := by unfold k2_pay101 k2_pay100; rw [e95, e99]; rfl
  have e102 : k2_pay102 x0 x1 = left2 g v 6 := by unfold k2_pay102; rw [e95, e101]; rfl
  have e103 : k2_pay103 x0 x1 = left2 g v 7 := by unfold k2_pay103; rw [e95, e102]; rfl
  have e105 : k2_pay105 x0 x1 = left2 g v 8 := by unfold k2_pay105 k2_pay104; rw [e95, e103]; rfl
  have e106 : k2_pay106 x0 x1 = left2 g v 9 := by unfold k2_pay106; rw [e95, e105]; rfl
  have e107 : k2_pay107 x0 x1 = left2 g v 10 := by unfold k2_pay107; rw [e95, e106]; rfl
  have e108 : k2_pay108 x0 x1 = left2 g v 11 := by unfold k2_pay108; rw [e95, e107]; rfl
  have e109 : k2_pay109 x0 x1 = left2 g v 12 := by unfold k2_pay109; rw [e95, e108]; rfl
  have e112 : k2_pay112 x0 x1 = left2 g v 13 := by unfold k2_pay112 k2_pay110 k2_pay111; rw [e95, e109]; rfl
  have e113 : k2_pay113 x0 x1 = left2 g v 14 := by unfold k2_pay113; rw [e95, e112]; rfl
  have e114 : k2_pay114 x0 x1 = left2 g v 15 := by unfold k2_pay114; rw [e95, e113]; rfl
  have e6 : k2_pay6 (View.ld x0 r2_0) (View.ld x1 r2_0) = k2_pay11 g (left2 g v 0) := by subst hg hv; rfl
  have e8 : k2_pay8 (View.ld x0 r2_0) (View.ld x1 r2_0) = Scalar.sitofp (F := Ideal) .f32 (modWord (topIdx2 g (left2 g v 0))) := by
    subst hg hv; rfl
  unfold k2_pay100 k2_pay104 k2_pay110 k2_pay111
  rw [e95, e96, e97, e98, e99, e101, e102, e103, e105, e106, e107, e108, e109, e112, e113, e114, e6, e8]
  simp only [table]
  generalize left2 g v 0 = u0, left2 g v 1 = u1, left2 g v 2 = u2, left2 g v 3 = u3, left2 g v 4 = u4, left2 g v 5 = u5,
    left2 g v 6 = u6, left2 g v 7 = u7, left2 g v 8 = u8, left2 g v 9 = u9, left2 g v 10 = u10, left2 g v 11 = u11,
    left2 g v 12 = u12, left2 g v 13 = u13, left2 g v 14 = u14, left2 g v 15 = u15
  rfl

/-- The greatest of a row of numbers is at least every element, and is one of them. -/
theorem greatest_row (src : FVec Ideal S1x1x64 .f32) :
    (∀ i, src i ≤ extractAt ![0, 0, 0] (shapeCast S1x1x1 (multiReduction .maximumf [1, 2] S1 src 0xFF800000#32 reduces_S1x1x64_S1
      (.inl rfl) rfl) shapeCasts_S1_S1x1x1) inpos_S1x1x1_p0_0_0)
    ∧ (extractAt ![0, 0, 0] (shapeCast S1x1x1 (multiReduction .maximumf [1, 2] S1 src 0xFF800000#32 reduces_S1x1x64_S1
      (.inl rfl) rfl) shapeCasts_S1_S1x1x1) inpos_S1x1x1_p0_0_0 = (⊥ : EReal)
      ∨ ∃ i, extractAt ![0, 0, 0] (shapeCast S1x1x1 (multiReduction .maximumf [1, 2] S1 src 0xFF800000#32 reduces_S1x1x64_S1
      (.inl rfl) rfl) shapeCasts_S1_S1x1x1) inpos_S1x1x1_p0_0_0 = src i) := by
  obtain ⟨j, hj⟩ := extract_one (multiReduction .maximumf [1, 2] S1 src 0xFF800000#32 reduces_S1x1x64_S1
      (.inl rfl) rfl) shapeCasts_S1_S1x1x1 inpos_S1x1x1_p0_0_0
  rw [hj]
  exact max_spec src reduces_S1x1x64_S1 (.inl rfl) rfl j fun i => idx_one _ _

/-- The least of a row of words is at most every element, and is one of them. -/
theorem least_row (src : IVec S1x1x64 32) :
    (∀ i, (extractAt ![0, 0, 0] (shapeCast S1x1x1 (multiReductionI .minsi [1, 2] S1 src 2147483647#32 reduces_S1x1x64_S1 rfl)
      shapeCasts_S1_S1x1x1) inpos_S1x1x1_p0_0_0).toInt ≤ (src i).toInt)
    ∧ (extractAt ![0, 0, 0] (shapeCast S1x1x1 (multiReductionI .minsi [1, 2] S1 src 2147483647#32 reduces_S1x1x64_S1 rfl)
      shapeCasts_S1_S1x1x1) inpos_S1x1x1_p0_0_0 = 2147483647#32
      ∨ ∃ i, extractAt ![0, 0, 0] (shapeCast S1x1x1 (multiReductionI .minsi [1, 2] S1 src 2147483647#32 reduces_S1x1x64_S1 rfl)
      shapeCasts_S1_S1x1x1) inpos_S1x1x1_p0_0_0 = src i) := by
  obtain ⟨j, hj⟩ := extract_one (multiReductionI .minsi [1, 2] S1 src 2147483647#32 reduces_S1x1x64_S1 rfl)
      shapeCasts_S1_S1x1x1 inpos_S1x1x1_p0_0_0
  rw [hj]
  exact min_spec src reduces_S1x1x64_S1 rfl j fun i => idx_one _ _

/-- A row seen with one more axis in front. -/
theorem cast2_at {α : Type} (v : S1x64.Idx → α) (i : S1x1x64.Idx) :
    (shapeCast S1x1x64 v shapeCasts_S1x64_S1x1x64) i = v (ix2 0 (i 2)) := by
  idx_vars i
  pointwise

/-- The greatest candidate is at least every candidate, and is one of them. -/
theorem topVal2_spec (v : FVec Ideal S1x64 .f32) :
    (∀ p, v (ix2 0 p) ≤ k2_pay10 v) ∧ (k2_pay10 v = (⊥ : EReal) ∨ ∃ p, k2_pay10 v = v (ix2 0 p)) := by
  obtain ⟨a, b⟩ := greatest_row (shapeCast S1x1x64 v shapeCasts_S1x64_S1x1x64)
  simp only [cast2_at] at a b
  exact ⟨fun p => a (ix3 0 0 p), b.imp id fun ⟨i, e⟩ => ⟨i 2, e⟩⟩

/-- The chosen pixel numbers, candidate by candidate. -/
theorem chosen2_at (g : IVec S1x64 32) (v : FVec Ideal S1x64 .f32) (p : Fin 64) :
    chosen2 g v (ix2 0 p) = if v (ix2 0 p) = k2_pay10 v then g (ix2 0 p) else 2147483647#32 := by
  unfold chosen2
  generalize k2_pay10 v = M
  pointwise

/-- The least pixel number among the greatest candidates: at most each of theirs, and one of them. -/
theorem topIdx2_spec (g : IVec S1x64 32) (v : FVec Ideal S1x64 .f32) :
    (∀ p, v (ix2 0 p) = k2_pay10 v → (topIdx2 g v).toInt ≤ (g (ix2 0 p)).toInt)
    ∧ (topIdx2 g v = 2147483647#32 ∨ ∃ p, v (ix2 0 p) = k2_pay10 v ∧ topIdx2 g v = g (ix2 0 p)) := by
  obtain ⟨a, b⟩ := least_row (shapeCast S1x1x64 (chosen2 g v) shapeCasts_S1x64_S1x1x64)
  simp only [cast2_at] at a b
  refine ⟨fun p e => (a (ix3 0 0 p)).trans (le_of_eq ?_), ?_⟩
  · have := chosen2_at g v p
    rw [if_pos e] at this
    exact congrArg BitVec.toInt this
  · rcases b with e | ⟨i, e⟩
    · exact Or.inl e
    · have h1 := chosen2_at g v (i 2)
      split_ifs at h1 with h
      · exact Or.inr ⟨i 2, h, e.trans h1⟩
      · exact Or.inl (e.trans h1)

/-- The bit of an equality of words. -/
theorem eq_bit (a b : BitVec 32) : IntOp.cmpi .eq a b = if a = b then 1#1 else 0#1 := by
  show BitVec.ofBool (a == b) = _
  by_cases h : a = b
  · simp [h]
  · rw [if_neg h, beq_eq_false_iff_ne.mpr h]; rfl

/-- What remains after a step. -/
theorem rest2_at (g : IVec S1x64 32) (v : FVec Ideal S1x64 .f32) (p : Fin 64) :
    rest2 g v (ix2 0 p) = if g (ix2 0 p) = topIdx2 g v ∧ v (ix2 0 p) = k2_pay10 v then Ideal.ofBits .f32 0xBF800000#32 else v (ix2 0 p) := by
  unfold rest2
  generalize topIdx2 g v = W
  generalize k2_pay10 v = M
  have e : select (andi (cmpi .eq g (broadcast S1x64 W)) (cmpf .oeq v (broadcast S1x64 M)))
      (broadcast S1x64 (Scalar.ofBits .f32 0xBF800000#32)) v (ix2 0 p)
      = Scalar.select (IntOp.andi (IntOp.cmpi .eq (g (ix2 0 p)) W) (BitVec.ofBool (decide (v (ix2 0 p) = M))))
        (Ideal.ofBits .f32 0xBF800000#32) (v (ix2 0 p)) := by pointwise
  rw [e, eq_bit]
  by_cases h : g (ix2 0 p) = W <;> by_cases h' : v (ix2 0 p) = M
  · rw [if_pos h, if_pos ⟨h, h'⟩, decide_eq_true h']; rfl
  · rw [if_pos h, if_neg (fun x => h' x.2), decide_eq_false h']; rfl
  · rw [if_neg h, if_neg (fun x => h x.1), decide_eq_true h']; rfl
  · rw [if_neg h, if_neg (fun x => h x.1), decide_eq_false h']; rfl

/-- One lane of the table written: lane `n` gets the column in row 0 and the row in row 1. -/
theorem put_at (n k : Fin 16) (w : BitVec 32) (row : FVec Ideal S8x128 .f32) (r : Fin 2) :
    put (iota .tc S8x128 32 [1] iota_S8x128_d1_w32) (iota .tc S8x128 32 [0] iota_S8x128_d0_w32) (BitVec.ofNat 32 n.val) w row
        (ix2 (⟨r.val, by omega⟩ : Fin 8) (⟨k.val, by omega⟩ : Fin 128))
      = if k = n then Scalar.sitofp (F := Ideal) .f32 (if r = 0 then modWord w else divWord w)
        else row (ix2 (⟨r.val, by omega⟩ : Fin 8) (⟨k.val, by omega⟩ : Fin 128)) := by
  unfold put
  generalize modWord w = a
  generalize divWord w = b
  have e (A B : EReal) : select (andi (cmpi .eq (iota .tc S8x128 32 [1] iota_S8x128_d1_w32) (broadcast S8x128 (BitVec.ofNat 32 n.val)))
        (cmpi .eq (iota .tc S8x128 32 [0] iota_S8x128_d0_w32) (broadcast S8x128 1#32))) (broadcast S8x128 B)
      (select (andi (cmpi .eq (iota .tc S8x128 32 [1] iota_S8x128_d1_w32) (broadcast S8x128 (BitVec.ofNat 32 n.val)))
        (cmpi .eq (iota .tc S8x128 32 [0] iota_S8x128_d0_w32) (broadcast S8x128 0#32))) (broadcast S8x128 A) row)
        (ix2 (⟨r.val, by omega⟩ : Fin 8) (⟨k.val, by omega⟩ : Fin 128))
      = Scalar.select (IntOp.andi (IntOp.cmpi .eq (BitVec.ofNat 32 k.val) (BitVec.ofNat 32 n.val))
          (IntOp.cmpi .eq (BitVec.ofNat 32 r.val) 1#32)) B
        (Scalar.select (IntOp.andi (IntOp.cmpi .eq (BitVec.ofNat 32 k.val) (BitVec.ofNat 32 n.val))
          (IntOp.cmpi .eq (BitVec.ofNat 32 r.val) 0#32)) A (row (ix2 (⟨r.val, by omega⟩ : Fin 8) (⟨k.val, by omega⟩ : Fin 128)))) := by
    pointwise
  refine (e _ _).trans ?_
  rw [eq_bit]
  have hkn : BitVec.ofNat 32 k.val = BitVec.ofNat 32 n.val ↔ k = n := by
    refine ⟨fun h => Fin.ext ?_, fun h => by rw [h]⟩
    have := congrArg BitVec.toNat h
    rw [toNat_small _ (by omega), toNat_small _ (by omega)] at this
    exact this
  by_cases h : k = n
  · rw [if_pos (hkn.2 h), if_pos h]
    fin_cases r <;> rfl
  · rw [if_neg (fun x => h (hkn.1 x)), if_neg h]
    fin_cases r <;> rfl

/-- The first lanes of a table. -/
theorem table_at (T : ℕ → BitVec 32) (z : FVec Ideal S8x128 .f32) (n : ℕ) (hn : n ≤ 16) (k : Fin 16) (hk : k.val < n) (r : Fin 2) :
    table (iota .tc S8x128 32 [1] iota_S8x128_d1_w32) (iota .tc S8x128 32 [0] iota_S8x128_d0_w32) T z n
        (ix2 (⟨r.val, by omega⟩ : Fin 8) (⟨k.val, by omega⟩ : Fin 128))
      = Scalar.sitofp (F := Ideal) .f32 (if r = 0 then modWord (T k) else divWord (T k)) := by
  induction n with
  | zero => omega
  | succ n ih =>
    refine (put_at ⟨n, by omega⟩ k (T n) _ r).trans ?_
    by_cases h : k.val = n
    · rw [if_pos (Fin.ext h), h]
    · rw [if_neg fun h' => h (congrArg Fin.val h')]
      exact ih (by omega) (by omega)

/-- The remainder of a small word. -/
theorem modWord_small (n : ℕ) (h : n < 2 ^ 31) : modWord (BitVec.ofNat 32 n) = BitVec.ofNat 32 (n % 512) := by
  have e : Scalar.select (Scalar.cmpi .eq 512#32 0#32) 1#32 512#32 = 512#32 := rfl
  have em : Scalar.remsi (BitVec.ofNat 32 n) 512#32 = BitVec.ofNat 32 (n % 512) := rem512 _ n h
  have es : Scalar.cmpi .slt (BitVec.ofNat 32 (n % 512)) 0#32 = 0#1 := slt_zero _ (by omega)
  simp only [modWord, e, em, es]
  generalize Scalar.cmpi .ne (BitVec.ofNat 32 (n % 512)) 0#32 = b
  have : Scalar.andi (Scalar.xori 0#1 (Scalar.cmpi .slt 512#32 0#32)) b = 0#1 := by revert b; decide
  rw [this]
  rfl

/-- The quotient of a small word. -/
theorem divWord_small (n : ℕ) (h : n < 2 ^ 31) : divWord (BitVec.ofNat 32 n) = BitVec.ofNat 32 (n / 512) := by
  have em : Scalar.remsi (BitVec.ofNat 32 n) 512#32 = BitVec.ofNat 32 (n % 512) := rem512 _ n h
  have ed : Scalar.divsi (BitVec.ofNat 32 n) 512#32 = BitVec.ofNat 32 (n / 512) := div512 _ n h
  have es : Scalar.cmpi .slt (BitVec.ofNat 32 n) 0#32 = 0#1 := slt_zero _ (by omega)
  have en : Scalar.cmpi .ne (BitVec.ofNat 32 (n % 512)) 0#32 = if n % 512 = 0 then 0#1 else 1#1 :=
    ne_small (n % 512) 0 (by omega) (by omega)
  simp only [divWord, em, ed, es, en]
  by_cases h0 : n % 512 = 0
  · rw [if_pos h0]
    generalize Scalar.cmpi .ne _ _ = b
    have : Scalar.andi b 0#1 = 0#1 := by revert b; decide
    rw [this]
    rfl
  · have eg : Scalar.cmpi .sgt (BitVec.ofNat 32 n) 0#32 = 1#1 := by
      show BitVec.ofBool (BitVec.slt _ _) = _
      rw [BitVec.slt, toInt_small n h, decide_eq_true (by simp; omega)]
      rfl
    rw [if_neg h0, eg]
    rfl

end Cert.KernelIdeal.Value
-- ==== Proof.Merge.lean ====
/-
What the merge kernel's array holds after its two grid points, and that its sixteen pixels are the sixteen first of the
whole image when the candidates are the sixteen first of each quarter.
-/
module

public import proofs.«01_k».proof.Proof.MergeSteps

@[expose] public section

set_option maxRecDepth 16384

noncomputable section

namespace Cert.KernelIdeal.Value

open Idealize.ShloMosaic Idealize.ShloMosaic.TcCoe Idealize.ShloMosaic.Tactic
open Cert.KernelIdeal.Gen Cert.Extremes Cert.Select Cert.Words

/-- Pixel `q` of quarter `k`. -/
def pixel (k : Fin 4) (q : Fin 65536) : Fin 262144 := ⟨65536 * k.val + q.val, by omega⟩

/-- Lane `n` of quarter `k` among the 64 candidates. -/
def lane64 (x : Fin 4 × Fin 16) : Fin 64 := ⟨16 * x.1.val + x.2.val, by omega⟩

/-- Each of the 64 lanes is one of a quarter. -/
theorem lane64_of (p : Fin 64) : lane64 (⟨p.val / 16, by omega⟩, ⟨p.val % 16, by omega⟩) = p :=
  Fin.ext (by simp only [lane64]; omega)

/-- Order among the pixels of an image: greater score first, among equal scores the smaller pixel number. -/
abbrev Sooner (s : Fin 262144 → EReal) : Fin 262144 → Fin 262144 → Prop := Before s Fin.val

/-- When the 64 candidates are the sixteen first of each quarter, the sixteen steps find the sixteen first of the image. -/
theorem merge_steps (s : Fin 262144 → EReal) (hs : ∀ p, 0 ≤ s p) (σ : Fin 4 → Fin 16 → Fin 65536)
    (hσ : ∀ k, Top (fun q q' => Sooner s (pixel k q) (pixel k q')) (σ k))
    (g : IVec S1x64 32) (v : FVec Ideal S1x64 .f32)
    (hv : ∀ x : Fin 4 × Fin 16, v (ix2 0 (lane64 x)) = s (pixel x.1 (σ x.1 x.2)))
    (hg : ∀ x : Fin 4 × Fin 16, g (ix2 0 (lane64 x)) = BitVec.ofNat 32 (pixel x.1 (σ x.1 x.2)).val) :
    ∃ τ : Fin 16 → Fin 262144, (∀ n : Fin 16, topIdx2 g (left2 g v n.val) = BitVec.ofNat 32 (τ n).val) ∧ Top (Sooner s) τ := by
  have hn (x : Fin 4 × Fin 16) : (g (ix2 0 (lane64 x))).toNat = (pixel x.1 (σ x.1 x.2)).val := by
    rw [hg, BitVec.toNat_ofNat]; omega
  have hinj : Function.Injective fun x : Fin 4 × Fin 16 => pixel x.1 (σ x.1 x.2) := by
    rintro ⟨k, n⟩ ⟨k', n'⟩ e
    have e := congrArg Fin.val e
    simp only [pixel] at e
    obtain rfl : k = k' := Fin.ext (by omega)
    rw [(hσ k).inj (Fin.ext (by omega) : σ k n = σ k n')]
  obtain ⟨τ, h, t⟩ := select_top (fun x : Fin 4 × Fin 16 => s (pixel x.1 (σ x.1 x.2))) (fun x => g (ix2 0 (lane64 x))) (fun x => hs _)
    (fun x => by show (g (ix2 0 (lane64 x))).toNat < _; rw [hn]; omega)
    (fun x y e => hinj (Fin.ext (by have := congrArg BitVec.toNat e; simp only [hn] at this; exact this))) 16 (by simp)
    (fun n x => (left2 g v n (ix2 0 (lane64 x)) : EReal)) (fun n => k2_pay10 (left2 g v n))
    (fun n => topIdx2 g (left2 g v n)) (fun x => hv x) (fun n x => (topVal2_spec (left2 g v n)).1 _)
    (fun n => (topVal2_spec (left2 g v n)).2.imp id fun ⟨p, e⟩ => ⟨_, by rw [lane64_of p]; exact e⟩)
    (fun n x => (topIdx2_spec g (left2 g v n)).1 _)
    (fun n => (topIdx2_spec g (left2 g v n)).2.imp id fun ⟨p, e⟩ => ⟨_, by rw [lane64_of p]; exact e⟩)
    (fun n x e => (rest2_at g (left2 g v n) _).trans (if_neg fun h => e h.1))
    (fun n x e e' => ((rest2_at g (left2 g v n) _).trans (if_pos ⟨e, e'⟩)).trans_lt ofBits_negOne)
  refine ⟨fun n => pixel (τ n).1 (σ (τ n).1 (τ n).2), fun n => (h n).2.trans (hg _), ?_⟩
  refine merge_top (fun _ => Fin 65536) pixel (fun q => ⟨⟨q.val / 65536, by omega⟩, ⟨q.val % 65536, by omega⟩, Fin.ext ?_⟩) σ hσ hinj τ ?_
  · simp only [pixel]; omega
  · simp only [hn] at t
    exact t

variable (V : (c : Dev nD) → (b : Ref sig .tc) → Buf (Elt Ideal) ((c : Thread nD τ).loc b))

/-- The candidate scores of batch element `b` as the kernel finds them. -/
def candVals (c : Dev nD) (b : Fin 2) : Vec Ideal S1x1x64 .f32 := fun j => (V c main_v27 : FVec Ideal S2x1x64 .f32) (ix3 b 0 (j 2))
/-- The candidate pixel numbers of batch element `b` as the kernel finds them. -/
def candIdx (c : Dev nD) (b : Fin 2) : Vec Ideal S1x1x64 .i32 := fun j => (V c main_v28 : IVec S2x1x64 32) (ix3 b 0 (j 2))

/-- The block indices of the three windows at a grid point. -/
theorem idx2w : ∀ t : Fin cfg2.N,
    (cfg2.win 0).index t = ![(grid2.coords t 0).val, 0, 0] ∧ (cfg2.win 1).index t = ![(grid2.coords t 0).val, 0, 0]
    ∧ (cfg2.win 2).index t = ![(grid2.coords t 0).val, 0, 0] := by decide +kernel

/-- The array after the region: per batch element what the body makes of its candidates. -/
theorem merge_array (c : Dev nD) :
    (dat2 V c).arrAt 2 cfg2.N = (fun y : S2x8x128.Idx => out2_2 (candVals V c (y 0)) (candIdx V c (y 0)) (ix3 0 (y 1) (y 2))) := by
  refine (dat2 V c).arrAt_eq_of_covers 2 _ (by decide +kernel) fun t hf y => ?_
  obtain ⟨e0, e1, e2⟩ := idx2w t
  blk_simp
  rw [after2_2]
  have h0 : iblk2 V c 0 t = candVals V c (grid2.coords t 0) := by
    funext j
    idx_vars j
    unfold candVals
    blk_point [iblk2, e0]
  have h1 : iblk2 V c 1 t = candIdx V c (grid2.coords t 0) := by
    funext j
    idx_vars j
    unfold candIdx
    blk_point [iblk2, e1]
  rw [h0, h1]
  idx_vars y
  have g0 : ((View.whole main_v29).slice (win2_2.rect t)).emb (ix3 y0 y1 y2) 0 = grid2.coords t 0 :=
    Fin.ext (by blk_simp [e2])
  have g1 : ((View.whole main_v29).slice (win2_2.rect t)).emb (ix3 y0 y1 y2) 1 = y1 :=
    Fin.ext (by blk_simp [e2])
  have g2 : ((View.whole main_v29).slice (win2_2.rect t)).emb (ix3 y0 y1 y2) 2 = y2 :=
    Fin.ext (by blk_simp [e2])
  rw [g0, g1, g2]
  obtain rfl : y0 = 0 := Subsingleton.elim _ _
  rfl

/-- Column and row of the pixels the steps find, in rows 0 and 1 of the first sixteen lanes. -/
theorem out_at (x0 : Vec Ideal S1x1x64 .f32) (x1 : Vec Ideal S1x1x64 .i32) (k : Fin 16) (r : Fin 2) :
    out2_2 x0 x1 (ix3 0 (⟨r.val, by omega⟩ : Fin 8) (⟨k.val, by omega⟩ : Fin 128))
      = Scalar.sitofp (F := Ideal) .f32 (if r = 0 then modWord (topIdx2 (k2_pay3 (F := Ideal) x1) (left2 (k2_pay3 (F := Ideal) x1) (k2_pay2 x0) k.val))
          else divWord (topIdx2 (k2_pay3 (F := Ideal) x1) (left2 (k2_pay3 (F := Ideal) x1) (k2_pay2 x0) k.val))) := by
  obtain ⟨z, hz⟩ := table_out x0 x1
  rw [hz]
  frame_out
  refine Eq.trans ?_ (table_at (fun n => topIdx2 (k2_pay3 (F := Ideal) x1) (left2 (k2_pay3 (F := Ideal) x1) (k2_pay2 x0) n)) z 16 le_rfl k k.isLt r)
  pointwise

end Cert.KernelIdeal.Value
-- ==== Proof.ChannelSums.lean ====
module

public import Idealize.ShloMosaic.Lib.Pipeline.ValueKit

@[expose] public section

noncomputable section

namespace Cert.ChannelSums

open Idealize.ShloMosaic Idealize.ShloMosaic.TcCoe

/-- A sum over the first two of three axes, read at a channel. -/
theorem sum_outer {n0 n1 n2 : Nat} (h : (⟨3, ![n0, n1, n2]⟩ : Shape).ReducesTo [0, 1] ⟨1, ![n2]⟩)
    (v : (⟨3, ![n0, n1, n2]⟩ : Shape).Idx → EReal) (init : EReal) (o : Fin n2) :
    Ideal.hostReduceAdd h v init (ix1 o) = init + ∑ b : Fin n0, ∑ k : Fin n1, v (ix3 b k o) := by
  refine congrArg (init + ·) ((Finset.sum_filter_eq_sum_of_fiber _ (fun k : Fin n0 × Fin n1 => ix3 k.1 k.2 o)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl
  · simp only [Fintype.sum_prod_type]

/-- A sum over the first and the last two of four axes, read at a channel. -/
theorem sum_around {n0 n1 n2 n3 : Nat} (h : (⟨4, ![n0, n1, n2, n3]⟩ : Shape).ReducesTo [0, 2, 3] ⟨1, ![n1]⟩)
    (v : (⟨4, ![n0, n1, n2, n3]⟩ : Shape).Idx → EReal) (init : EReal) (o : Fin n1) :
    Ideal.hostReduceAdd h v init (ix1 o) = init + ∑ b : Fin n0, ∑ y : Fin n2, ∑ x : Fin n3, v (ix4 b o y x) := by
  refine congrArg (init + ·) ((Finset.sum_filter_eq_sum_of_fiber _ (fun k : Fin n0 × Fin n2 × Fin n3 => ix4 k.1 o k.2.1 k.2.2)
    (fun _ _ e => Prod.ext (congrFun e 0) (Prod.ext (congrFun e 2) (congrFun e 3))) (fun i => ⟨fun e => ⟨(i 0, i 2, i 3), ?_⟩, ?_⟩) v).trans ?_)
  · funext a; apply Fin.ext
    match a with
    | ⟨0, _⟩ => rfl
    | ⟨1, _⟩ => exact (congrArg Fin.val (congrFun e 0)).symm
    | ⟨2, _⟩ => rfl
    | ⟨3, _⟩ => rfl
  · rintro ⟨k, rfl⟩
    funext b; apply Fin.ext
    match b with
    | ⟨0, _⟩ => rfl
  · simp only [Fintype.sum_prod_type]

end Cert.ChannelSums
-- ==== Proof.HostReads.lean ====
/-
What the operations between the kernels hand on: reshaped arguments, the scale and shift made of the channel sums, and
the two results.
-/
module

public import proofs.«01_k».proof.Proof.ConvArray
public import proofs.«01_k».proof.Proof.ScoreArray
public import proofs.«01_k».proof.Proof.Merge
public import proofs.«01_k».proof.Proof.ChannelSums

@[expose] public section

set_option maxRecDepth 16384

noncomputable section

namespace Cert.KernelIdeal.Value

open Idealize.ShloMosaic Idealize.ShloMosaic.TcCoe Idealize.ShloMosaic.Tactic
open Cert.KernelIdeal.Gen Cert.Spec

variable (m : (ℓ : Loc nD τ sig) → Buf (Elt Ideal) ℓ) (ρ : Dev nD → PrngReg)

/-- The image the convolution kernel finds is the first argument. -/
theorem image_read (c : Dev nD) (b : Fin 2) (ch : Fin 96) (y x : Fin 512) :
    image (V1 m ρ) c b ch y x = (m ((c : Thread nD τ).loc main_arg0) : FVec Ideal S2x96x512x512 .f32) (ix4 b ch y x) := by
  unfold image
  have e : (V1 m ρ c main_v0 : FVec Ideal S2x96x262144 .f32) = shapeCast S2x96x262144 (m ((c : Thread nD τ).loc main_arg0) : FVec Ideal S2x96x512x512 .f32) shapeCasts_S2x96x512x512_S2x96x262144 := by
    show StableHlo.after hostOps0 (W0 m ρ c) main_v0 = _
    after_results
    rfl
  rw [e]
  pointwise

/-- The weight matrix the convolution kernel finds is the second argument, rearranged. -/
theorem weights_read (c : Dev nD) (o : Fin 24) (ch : Fin 96) (ky kx : Fin 3) :
    weights (V1 m ρ) c o ch ky kx = (m ((c : Thread nD τ).loc main_arg1) : FVec Ideal S24x96x3x3 .f32) (ix4 o ch ky kx) := by
  unfold weights
  have e : (V1 m ρ c main_v2 : FVec Ideal S216x96 .f32) = shapeCast S216x96 (transpose S3x3x24x96 [2, 3, 0, 1] (m ((c : Thread nD τ).loc main_arg1) : FVec Ideal S24x96x3x3 .f32) transposes_S24x96x3x3_S3x3x24x96_2_3_0_1) shapeCasts_S3x3x24x96_S216x96 := by
    show StableHlo.after hostOps0 (W0 m ρ c) main_v2 = _
    after_results
    rfl
  rw [e]
  pointwise

/-- A channel's mean from its sum over both images. -/
def meanOf (s1 : EReal) : EReal := Ideal.div s1 (Ideal.ofBits .f32 0x49000000#32)

/-- The factor that normalises a channel. -/
def scaleOf (γ s1 s2 : EReal) : EReal :=
  Ideal.div γ (Ideal.sqrt (Ideal.div s2 (Ideal.ofBits .f32 0x49000000#32) - meanOf s1 * meanOf s1 + Ideal.ofBits .f32 0x3727C5AC#32))

/-- The amount added after it. -/
def shiftOf (γ β s1 s2 : EReal) : EReal := β - meanOf s1 * scaleOf γ s1 s2

/-- A channel's sum as the kernel adds it up: per image and block of 32 rows. -/
def sum1 (c : Dev nD) (o : Fin 24) : EReal := ∑ b : Fin 2, ∑ k : Fin 16, blockSum (V1 m ρ) c b k o
/-- A channel's sum of squares likewise. -/
def sum2 (c : Dev nD) (o : Fin 24) : EReal := ∑ b : Fin 2, ∑ k : Fin 16, blockSquares (V1 m ρ) c b k o

/-- The statistics the operations after the convolution kernel find. -/
theorem W2_stat (c : Dev nD) : (W2 m ρ c main_v3_1 : FVec Ideal S2x16x8x24 .f32) = (fun y : S2x16x8x24.Idx =>
      if (y 2).val = 0 then blockSum (V1 m ρ) c (y 0) (y 1) (y 3) else if (y 2).val = 1 then blockSquares (V1 m ρ) c (y 0) (y 1) (y 3) else (0 : EReal)) :=
  (W2_arr m ρ c 5).trans (stat_array (V1 m ρ) c)

/-- The first row of the statistics added up. -/
def sumVec (S : FVec Ideal S2x16x8x24 .f32) : FVec Ideal S24 .f32 :=
  Host.reduceAdd (shapeCast S2x16x24 (extractStridedSlice S2x16x1x24 ![0, 0, 0, 0] S slices_S2x16x8x24_S2x16x1x24_0_0_0_0)
    shapeCasts_S2x16x1x24_S2x16x24) (constant S_ .f32 0x00000000#32) reducesTo_S2x16x24_S24_d0_1 h_S_

/-- The second row of the statistics added up. -/
def squareVec (S : FVec Ideal S2x16x8x24 .f32) : FVec Ideal S24 .f32 :=
  Host.reduceAdd (shapeCast S2x16x24 (extractStridedSlice S2x16x1x24 ![0, 0, 1, 0] S slices_S2x16x8x24_S2x16x1x24_0_0_1_0)
    shapeCasts_S2x16x1x24_S2x16x24) (constant S_ .f32 0x00000000#32) reducesTo_S2x16x24_S24_d0_1 h_S_

/-- The means. -/
def meanVec (S : FVec Ideal S2x16x8x24 .f32) : FVec Ideal S24 .f32 :=
  Host.divf (sumVec S) (broadcastInDim S24 ![] bcast_S_S24 (constant S_ .f32 0x49000000#32))

/-- The scales. -/
def scaleVec (S : FVec Ideal S2x16x8x24 .f32) (γ : FVec Ideal S24 .f32) : FVec Ideal S24 .f32 :=
  Host.divf γ (Host.sqrt (addf (subf (Host.divf (squareVec S) (broadcastInDim S24 ![] bcast_S_S24 (constant S_ .f32 0x49000000#32)))
    (mulf (meanVec S) (meanVec S))) (broadcastInDim S24 ![] bcast_S_S24 (constant S_ .f32 0x3727C5AC#32))))

/-- The shifts. -/
def shiftVec (S : FVec Ideal S2x16x8x24 .f32) (γ β : FVec Ideal S24 .f32) : FVec Ideal S24 .f32 :=
  subf β (mulf (meanVec S) (scaleVec S γ))

/-- A channel's sum, over the images and the blocks of the first row of statistics. -/
theorem sumVec_at (S : FVec Ideal S2x16x8x24 .f32) (o : Fin 24) : sumVec S (ix1 o) = ∑ b : Fin 2, ∑ k : Fin 16, S (ix4 b k 0 o) := by
  unfold sumVec
  generalize hT : shapeCast S2x16x24 _ _ = T
  refine (Cert.ChannelSums.sum_outer _ T _ o).trans ?_
  subst hT
  pointwise

/-- A channel's sum of squares, over the images and the blocks of the second row of statistics. -/
theorem squareVec_at (S : FVec Ideal S2x16x8x24 .f32) (o : Fin 24) : squareVec S (ix1 o) = ∑ b : Fin 2, ∑ k : Fin 16, S (ix4 b k 1 o) := by
  unfold squareVec
  generalize hT : shapeCast S2x16x24 _ _ = T
  refine (Cert.ChannelSums.sum_outer _ T _ o).trans ?_
  subst hT
  pointwise

/-- A channel's mean, of its sum. -/
theorem meanVec_at (S : FVec Ideal S2x16x8x24 .f32) (o : Fin 24) : meanVec S (ix1 o) = meanOf (sumVec S (ix1 o)) := by
  unfold meanVec
  generalize sumVec S = s
  pointwise [meanOf]

/-- A channel's scale, of its two sums. -/
theorem scaleVec_at (S : FVec Ideal S2x16x8x24 .f32) (γ : FVec Ideal S24 .f32) (o : Fin 24) :
    scaleVec S γ (ix1 o) = scaleOf (γ (ix1 o)) (sumVec S (ix1 o)) (squareVec S (ix1 o)) := by
  unfold scaleVec scaleOf
  rw [← meanVec_at]
  generalize squareVec S = s
  generalize meanVec S = s'
  pointwise

/-- A channel's shift, of its two sums. -/
theorem shiftVec_at (S : FVec Ideal S2x16x8x24 .f32) (γ β : FVec Ideal S24 .f32) (o : Fin 24) :
    shiftVec S γ β (ix1 o) = shiftOf (γ (ix1 o)) (β (ix1 o)) (sumVec S (ix1 o)) (squareVec S (ix1 o)) := by
  unfold shiftVec shiftOf
  rw [← meanVec_at, ← scaleVec_at]
  generalize scaleVec S γ = s
  generalize meanVec S = s'
  pointwise

/-- The sums of the statistics are the channel's sums. -/
theorem sums_eq (c : Dev nD) (o : Fin 24) :
    sumVec (W2 m ρ c main_v3_1) (ix1 o) = sum1 m ρ c o ∧ squareVec (W2 m ρ c main_v3_1) (ix1 o) = sum2 m ρ c o := by
  rw [sumVec_at, squareVec_at, W2_stat]
  exact ⟨rfl, rfl⟩

/-- An argument as the operations after the convolution kernel find it. -/
theorem W2_arg (c : Dev nD) (a : Ref sig .tc) (h : a ∈ argRefs) : W2 m ρ c a = m ((c : Thread nD τ).loc a) := W2_args m ρ c a h

/-- The scale the score kernel finds. -/
theorem scale_read (c : Dev nD) (o : Fin 24) :
    (V3 m ρ c main_v22 : FVec Ideal S24x1 .f32) (ix2 o 0)
      = scaleOf ((m ((c : Thread nD τ).loc main_arg3) : FVec Ideal S24 .f32) (ix1 o)) (sum1 m ρ c o) (sum2 m ρ c o) := by
  have e : (V3 m ρ c main_v22 : FVec Ideal S24x1 .f32) = shapeCast S24x1 (scaleVec (W2 m ρ c main_v3_1) (W2 m ρ c main_arg3)) shapeCasts_S24_S24x1 := by
    show StableHlo.after hostOps1 (W2 m ρ c) main_v22 = _
    after_results
    rfl
  obtain ⟨h1, h2⟩ := sums_eq m ρ c o
  rw [e, ← h1, ← h2, ← W2_arg m ρ c main_arg3 (by decide), ← scaleVec_at]
  generalize scaleVec _ _ = s
  pointwise

/-- The shift the score kernel finds. -/
theorem shift_read (c : Dev nD) (o : Fin 24) :
    (V3 m ρ c main_v23 : FVec Ideal S24x1 .f32) (ix2 o 0)
      = shiftOf ((m ((c : Thread nD τ).loc main_arg3) : FVec Ideal S24 .f32) (ix1 o))
        ((m ((c : Thread nD τ).loc main_arg4) : FVec Ideal S24 .f32) (ix1 o)) (sum1 m ρ c o) (sum2 m ρ c o) := by
  have e : (V3 m ρ c main_v23 : FVec Ideal S24x1 .f32) = shapeCast S24x1 (shiftVec (W2 m ρ c main_v3_1) (W2 m ρ c main_arg3) (W2 m ρ c main_arg4)) shapeCasts_S24_S24x1 := by
    show StableHlo.after hostOps1 (W2 m ρ c) main_v23 = _
    after_results
    rfl
  obtain ⟨h1, h2⟩ := sums_eq m ρ c o
  rw [e, ← h1, ← h2, ← W2_arg m ρ c main_arg3 (by decide), ← W2_arg m ρ c main_arg4 (by decide), ← shiftVec_at]
  generalize shiftVec _ _ _ = s
  pointwise

/-- The second layer's weights the score kernel finds. -/
theorem second_read (c : Dev nD) (o : Fin 24) :
    (V3 m ρ c main_v24 : FVec Ideal S24x1 .f32) (ix2 o 0) = (m ((c : Thread nD τ).loc main_arg5) : FVec Ideal S1x24x1x1 .f32) (ix4 0 o 0 0) := by
  have e : (V3 m ρ c main_v24 : FVec Ideal S24x1 .f32) = shapeCast S24x1 (W2 m ρ c main_arg5 : FVec Ideal S1x24x1x1 .f32) shapeCasts_S1x24x1x1_S24x1 := by
    show StableHlo.after hostOps1 (W2 m ρ c) main_v24 = _
    after_results
    rfl
  rw [e, W2_arg m ρ c main_arg5 (by decide)]
  pointwise

/-- The second layer's bias the score kernel finds. -/
theorem bias_read (c : Dev nD) :
    (V3 m ρ c main_v25 : FVec Ideal S1x1 .f32) (ix2 0 0) = (m ((c : Thread nD τ).loc main_arg6) : FVec Ideal S1 .f32) (ix1 0) := by
  have e : (V3 m ρ c main_v25 : FVec Ideal S1x1 .f32) = shapeCast S1x1 (W2 m ρ c main_arg6 : FVec Ideal S1 .f32) shapeCasts_S1_S1x1 := by
    show StableHlo.after hostOps1 (W2 m ρ c) main_v25 = _
    after_results
    rfl
  rw [e, W2_arg m ρ c main_arg6 (by decide)]
  pointwise

/-- The convolution values the score kernel finds. -/
theorem conv_read (c : Dev nD) (b : Fin 2) (o : Fin 24) (p : Fin 262144) :
    (V3 m ρ c main_v3_0 : FVec Ideal S2x24x262144 .f32) (ix3 b o p) = convAt (V1 m ρ) c b o p.val := by
  have e : (V3 m ρ c main_v3_0 : FVec Ideal S2x24x262144 .f32) = fun y : S2x24x262144.Idx => convAt (V1 m ρ) c (y 0) (y 1) (y 2).val :=
    (W3_of m ρ c main_v3_0 (by decide)).trans ((W2_arr m ρ c 4).trans (conv_array (V1 m ρ) c))
  exact congrFun e (ix3 b o p)

/-- The score map. -/
theorem map_read (c : Dev nD) (b : Fin 2) (y x : Fin 512) :
    (W7 m ρ c main_v37 : FVec Ideal S2x1x512x512 .f32) (ix4 b 0 y x) = score (V3 m ρ) c b ⟨y.val * 512 + x.val, by omega⟩ := by
  have e : (W7 m ρ c main_v37 : FVec Ideal S2x1x512x512 .f32) = shapeCast S2x1x512x512 (W6 m ρ c main_v26_0 : FVec Ideal S2x1x262144 .f32) shapeCasts_S2x1x262144_S2x1x512x512 := by
    show StableHlo.after hostOps3 (W6 m ρ c) main_v37 = _
    after_results
    rfl
  have e2 : (W6 m ρ c main_v26_0 : FVec Ideal S2x1x262144 .f32) = fun y : S2x1x262144.Idx => score (V3 m ρ) c (y 0) (y 2) :=
    (W6_of m ρ c main_v26_0 (by decide)).trans ((W5_of m ρ c main_v26_0 (by decide)).trans ((W4_arr m ρ c 5).trans (score_array (V3 m ρ) c)))
  rw [e, e2]
  pointwise

/-- The candidate scores the merge kernel finds. -/
theorem values_read (c : Dev nD) (b : Fin 2) (k : Fin 4) (n : Fin 16) :
    k2_pay2 (F := Ideal) (candVals (V5 m ρ) c b) (ix2 0 (lane64 (k, n))) = k1_pay7 (left (words k) (scores (V3 m ρ) c b k) n.val) := by
  have e : (V5 m ρ c main_v27 : FVec Ideal S2x1x64 .f32) = shapeCast S2x1x64 (W4 m ρ c main_v26_1 : FVec Ideal S2x4x1x16 .f32) shapeCasts_S2x4x1x16_S2x1x64 := by
    show StableHlo.after hostOps2 (W4 m ρ c) main_v27 = _
    after_results
    rfl
  have e2 : (W4 m ρ c main_v26_1 : FVec Ideal S2x4x1x16 .f32) = _ := (W4_arr m ρ c 6).trans (value_array (V3 m ρ) c)
  have e3 : k2_pay2 (F := Ideal) (candVals (V5 m ρ) c b) (ix2 0 (lane64 (k, n))) = (W4 m ρ c main_v26_1 : FVec Ideal S2x4x1x16 .f32) (ix4 b k 0 n) := by
    have e4 : k2_pay2 (F := Ideal) (candVals (V5 m ρ) c b) (ix2 0 (lane64 (k, n))) = (V5 m ρ c main_v27 : FVec Ideal S2x1x64 .f32) (ix3 b 0 (lane64 (k, n))) := by
      pointwise [k2_pay2, candVals]
    rw [e4, e]
    generalize (W4 m ρ c main_v26_1 : FVec Ideal S2x4x1x16 .f32) = S
    unfold lane64
    pointwise
  exact e3.trans (congrFun e2 (ix4 b k 0 n))

/-- The candidate pixel numbers the merge kernel finds. -/
theorem indices_read (c : Dev nD) (b : Fin 2) (k : Fin 4) (n : Fin 16) :
    k2_pay3 (F := Ideal) (candIdx (V5 m ρ) c b) (ix2 0 (lane64 (k, n))) = topIdx (words k) (left (words k) (scores (V3 m ρ) c b k) n.val) := by
  have e : (V5 m ρ c main_v28 : IVec S2x1x64 32) = shapeCast S2x1x64 (W4 m ρ c main_v26_2 : IVec S2x4x1x16 32) shapeCasts_S2x4x1x16_S2x1x64 := by
    show StableHlo.after hostOps2 (W4 m ρ c) main_v28 = _
    after_results
    rfl
  have e2 : (W4 m ρ c main_v26_2 : IVec S2x4x1x16 32) = _ := (W4_arr m ρ c 7).trans (index_array (V3 m ρ) c)
  have e3 : k2_pay3 (F := Ideal) (candIdx (V5 m ρ) c b) (ix2 0 (lane64 (k, n))) = (W4 m ρ c main_v26_2 : IVec S2x4x1x16 32) (ix4 b k 0 n) := by
    have e4 : k2_pay3 (F := Ideal) (candIdx (V5 m ρ) c b) (ix2 0 (lane64 (k, n))) = (V5 m ρ c main_v28 : IVec S2x1x64 32) (ix3 b 0 (lane64 (k, n))) := by
      pointwise [k2_pay3, candIdx]
    rw [e4, e]
    generalize (W4 m ρ c main_v26_2 : IVec S2x4x1x16 32) = S
    unfold lane64
    pointwise
  exact e3.trans (congrFun e2 (ix4 b k 0 n))

/-- The coordinates: row `r` of the merge kernel's table. -/
theorem coords_read (c : Dev nD) (b : Fin 2) (n : Fin 16) (r : Fin 2) :
    (W7 m ρ c main_v36 : FVec Ideal S2x16x2 .f32) (ix3 b n r)
      = out2_2 (candVals (V5 m ρ) c b) (candIdx (V5 m ρ) c b) (ix3 0 (⟨r.val, by omega⟩ : Fin 8) (⟨n.val, by omega⟩ : Fin 128)) := by
  have e : (W7 m ρ c main_v36 : FVec Ideal S2x16x2 .f32) = concatenate S2x16x2 2
      [⟨S2x16x1, broadcastInDim S2x16x1 ![0, 1] bcast_S2x16_S2x16x1_0_1 (shapeCast S2x16 (extractStridedSlice S2x1x16 ![0, 0, 0] (W6 m ρ c main_v29 : FVec Ideal S2x8x128 .f32) slices_S2x8x128_S2x1x16_0_0_0) shapeCasts_S2x1x16_S2x16)⟩,
       ⟨S2x16x1, broadcastInDim S2x16x1 ![0, 1] bcast_S2x16_S2x16x1_0_1 (shapeCast S2x16 (extractStridedSlice S2x1x16 ![0, 1, 0] (W6 m ρ c main_v29 : FVec Ideal S2x8x128 .f32) slices_S2x8x128_S2x1x16_0_1_0) shapeCasts_S2x1x16_S2x16)⟩]
      concatenates_S2x16x1_S2x16x1_S2x16x2_d2 := by
    show StableHlo.after hostOps3 (W6 m ρ c) main_v36 = _
    after_results
    rfl
  have e2 : (W6 m ρ c main_v29 : FVec Ideal S2x8x128 .f32) = _ := (W6_arr m ρ c 2).trans (merge_array (V5 m ρ) c)
  rw [e]
  have e3 : (W6 m ρ c main_v29 : FVec Ideal S2x8x128 .f32) (ix3 b (⟨r.val, by omega⟩ : Fin 8) (⟨n.val, by omega⟩ : Fin 128))
    = out2_2 (candVals (V5 m ρ) c b) (candIdx (V5 m ρ) c b) (ix3 0 (⟨r.val, by omega⟩ : Fin 8) (⟨n.val, by omega⟩ : Fin 128)) :=
    congrFun e2 _
  rw [← e3]
  generalize (W6 m ρ c main_v29 : FVec Ideal S2x8x128 .f32) = S
  pointwise
  fin_cases r <;> rfl

end Cert.KernelIdeal.Value
-- ==== Proof.Norm.lean ====
/-
Normalising one channel over the extended reals: the kernel's way, by the sum and the sum of squares, and the
reference's way, by the squared distances from the mean, give the same value.
-/
module

public import Idealize.ShloMosaic.Lib.Pipeline.ValueKit

@[expose] public section

noncomputable section

namespace Cert.Norm

open Idealize.ShloMosaic

/-- Plus or minus infinity. -/
def Inf (x : EReal) : Prop := x = ⊤ ∨ x = ⊥

/-- A value that is not infinite is a real number. -/
theorem real_of_not_inf {x : EReal} (h : ¬ Inf x) : ∃ r : ℝ, x = r := by
  induction x using EReal.rec with
  | bot => exact absurd (Or.inr rfl) h
  | coe r => exact ⟨r, rfl⟩
  | top => exact absurd (Or.inl rfl) h

/-- An infinite term makes a sum of two infinite. -/
theorem inf_add_left {a : EReal} (h : Inf a) (b : EReal) : Inf (a + b) := by
  rcases h with rfl | rfl
  · induction b using EReal.rec with
    | bot => exact Or.inr (by simp)
    | coe r => exact Or.inl (by simp)
    | top => exact Or.inl (by simp)
  · exact Or.inr (EReal.bot_add b)

/-- An infinite second term makes a sum of two infinite. -/
theorem inf_add_right (a : EReal) {b : EReal} (h : Inf b) : Inf (a + b) := add_comm b a ▸ inf_add_left h a

/-- The negative of an infinite value is infinite. -/
theorem inf_neg {a : EReal} (h : Inf a) : Inf (-a) := by
  rcases h with rfl | rfl
  · exact Or.inr EReal.neg_top
  · exact Or.inl EReal.neg_bot

/-- One infinite term makes a finite sum infinite. -/
theorem inf_sum {ι : Type} [Fintype ι] (f : ι → EReal) (i : ι) (h : Inf (f i)) : Inf (∑ j, f j) := by
  classical
  rw [← Finset.add_sum_erase _ _ (Finset.mem_univ i)]
  exact inf_add_left h _

/-- The square of an infinite value is plus infinity. -/
theorem inf_square {a : EReal} (h : Inf a) : a * a = ⊤ := by
  rcases h with rfl | rfl <;> rfl

/-- A square is not negative. -/
theorem square_nonneg (a : EReal) : 0 ≤ a * a := by
  induction a using EReal.rec with
  | bot => exact le_top.trans_eq (inf_square (Or.inr rfl)).symm
  | coe r => rw [← EReal.coe_mul]; exact EReal.coe_nonneg.mpr (mul_self_nonneg r)
  | top => exact le_top.trans_eq (inf_square (Or.inl rfl)).symm

/-- One infinite term makes the sum of the squares plus infinity. -/
theorem top_squares {ι : Type} [Fintype ι] (f : ι → EReal) (i : ι) (h : Inf (f i)) : ∑ j, f j * f j = ⊤ := by
  refine top_le_iff.mp ?_
  rw [← inf_square h]
  exact Finset.single_le_sum (f := fun j => f j * f j) (fun j _ => square_nonneg (f j)) (Finset.mem_univ i)

/-- A sum of real numbers is the real sum. -/
theorem coe_sum {ι : Type} [Fintype ι] (f : ι → ℝ) : ∑ j, (f j : EReal) = ((∑ j, f j : ℝ) : EReal) := by
  classical
  induction (Finset.univ : Finset ι) using Finset.induction_on with
  | empty => simp
  | insert a s ha ih => rw [Finset.sum_insert ha, Finset.sum_insert ha, ih, EReal.coe_add]

/-- A quotient of real numbers is the real quotient. -/
theorem div_coe (a : ℝ) {b : ℝ} (hb : b ≠ 0) : Ideal.div (a : EReal) b = ((a / b : ℝ) : EReal) := by
  have h : (b : EReal) ≠ 0 := by exact_mod_cast hb
  rw [Ideal.div, if_neg h, div_eq_mul_inv, EReal.coe_mul, EReal.coe_inv]

/-- Dividing an infinite value by a positive number leaves an infinite value. -/
theorem inf_div {a : EReal} (h : Inf a) {b : ℝ} (hb : 0 < b) : Inf (Ideal.div a b) := by
  have hne : (b : EReal) ≠ 0 := by exact_mod_cast hb.ne'
  have hp : (0 : ℝ) < b⁻¹ := inv_pos.mpr hb
  rw [Ideal.div, if_neg hne, ← EReal.coe_inv]
  rcases h with rfl | rfl
  · exact Or.inl (EReal.top_mul_coe_of_pos hp)
  · exact Or.inr (EReal.bot_mul_coe_of_pos hp)

/-- Dividing plus infinity by a positive number leaves plus infinity. -/
theorem top_div {b : ℝ} (hb : 0 < b) : Ideal.div ⊤ b = ⊤ := by
  have hne : (b : EReal) ≠ 0 := by exact_mod_cast hb.ne'
  rw [Ideal.div, if_neg hne, ← EReal.coe_inv]
  exact EReal.top_mul_coe_of_pos (inv_pos.mpr hb)

/-- The square root of a real number that is not negative. -/
theorem sqrt_coe {r : ℝ} (h : 0 ≤ r) : Ideal.sqrt (r : EReal) = (Real.sqrt r : ℝ) := by
  show (if r < 0 then (⊥ : EReal) else (Real.sqrt r : ℝ)) = _
  rw [if_neg (not_lt.mpr h)]

/-- The mean of the squared distances from the mean is the mean square less the square of the mean; a constant added to
    every value changes nothing. -/
theorem variance {ι : Type} [Fintype ι] (g : ι → ℝ) (b N : ℝ) (hN : N ≠ 0) (hc : (Fintype.card ι : ℝ) = N) :
    (∑ i, (g i + b)) / N = (∑ i, g i) / N + b
      ∧ (∑ i, ((g i + b) - (∑ i, (g i + b)) / N) * ((g i + b) - (∑ i, (g i + b)) / N)) / N
        = (∑ i, g i * g i) / N - (∑ i, g i) / N * ((∑ i, g i) / N) := by
  have h1 : (∑ i, (g i + b)) / N = (∑ i, g i) / N + b := by
    rw [Finset.sum_add_distrib, Finset.sum_const, Finset.card_univ, nsmul_eq_mul, hc]
    field_simp
  refine ⟨h1, ?_⟩
  rw [h1]
  generalize hm : (∑ i, g i) / N = m
  have h2 : ∀ i, ((g i + b) - (m + b)) * ((g i + b) - (m + b)) = g i * g i - (2 * m) * g i + m * m := fun i => by ring
  have h3 : ∑ i, g i = m * N := by rw [← hm]; field_simp
  simp only [h2]
  rw [Finset.sum_add_distrib, Finset.sum_sub_distrib, ← Finset.mul_sum, Finset.sum_const, Finset.card_univ, nsmul_eq_mul, hc, h3]
  field_simp
  ring

/-- The kernel's normalised value: `x` times a scale plus a shift. -/
def byMoments {ι : Type} [Fintype ι] (h : ι → EReal) (γ β N e x : EReal) : EReal :=
  let m := Ideal.div (∑ i, h i) N
  let q := Ideal.div γ (Ideal.sqrt (Ideal.div (∑ i, h i * h i) N - m * m + e))
  x * q + (β - m * q)

/-- The reference's normalised value: the distance from the mean over the deviation, times `γ`, plus `β`. -/
def byDistances {ι : Type} [Fintype ι] (h : ι → EReal) (γ β N e x : EReal) : EReal :=
  let m := Ideal.div (∑ i, h i) N
  Ideal.div (x - m) (Ideal.sqrt (Ideal.div (∑ i, (h i - m) * (h i - m)) N + e)) * γ + β

/-- Both ways give the same value when every value of the channel is a real number. -/
theorem same_real {ι : Type} [Fintype ι] (g : ι → ℝ) (b γ N e : ℝ) (β : EReal) (hN : 0 < N) (hc : (Fintype.card ι : ℝ) = N) (he : 0 < e) (i : ι) :
    byMoments (fun j => (g j : EReal)) γ β N e (g i) = byDistances (fun j => (g j : EReal) + b) γ β N e ((g i : EReal) + b) := by
  obtain ⟨h1, h2⟩ := variance g b N hN.ne' hc
  have hv : 0 ≤ (∑ i, ((g i + b) - (∑ i, (g i + b)) / N) * ((g i + b) - (∑ i, (g i + b)) / N)) / N :=
    div_nonneg (Finset.sum_nonneg fun j _ => mul_self_nonneg _) hN.le
  simp only [byMoments, byDistances, ← EReal.coe_mul, ← EReal.coe_add, coe_sum, div_coe _ hN.ne', ← EReal.coe_sub]
  rw [h2] at hv ⊢
  rw [h1]
  generalize (∑ i, g i) / N = m at hv ⊢
  generalize (∑ i, g i * g i) / N - m * m = v at hv ⊢
  have hs : 0 < Real.sqrt (v + e) := Real.sqrt_pos.mpr (by linarith)
  rw [sqrt_coe (by linarith), div_coe _ hs.ne', div_coe _ hs.ne', ← EReal.coe_mul, ← EReal.coe_mul, ← EReal.coe_mul]
  induction β using EReal.rec with
  | bot => simp
  | coe r =>
    rw [← EReal.coe_sub, ← EReal.coe_add, ← EReal.coe_add]
    congr 1
    ring
  | top => rw [EReal.top_sub_coe, EReal.coe_add_top, EReal.coe_add_top]

/-- Both ways give `β` when some value of the channel is infinite. -/
theorem same_inf {ι : Type} [Fintype ι] (h : ι → EReal) (b γ N e : ℝ) (β : EReal) (hN : 0 < N) (i j : ι) (hj : Inf (h j)) :
    byMoments h γ β N e (h i) = byDistances (fun j => h j + b) γ β N e (h i + b) := by
  have k1 : byMoments h γ β N e (h i) = β := by
    have hm := inf_square (inf_div (inf_sum h j hj) hN)
    simp only [byMoments, top_squares h j hj, top_div hN, hm]
    have hs : Ideal.sqrt ((⊤ : EReal) - ⊤ + e) = ⊥ := by
      rw [EReal.sub_top, EReal.bot_add]; rfl
    have hq : Ideal.div (γ : EReal) ⊥ = 0 := by
      rw [Ideal.div, if_neg (by simp), EReal.inv_bot, mul_zero]
    rw [hs, hq, mul_zero, mul_zero, sub_zero, zero_add]
  have k2 : byDistances (fun j => h j + b) γ β N e (h i + b) = β := by
    have hm := inf_div (inf_sum (fun j => h j + (b : EReal)) j (inf_add_left hj b)) hN
    simp only [byDistances]
    generalize Ideal.div (∑ j, (h j + (b : EReal))) N = m at hm ⊢
    have hd : ∀ x : EReal, Inf (x - m) := fun x => by
      rw [sub_eq_add_neg]; exact inf_add_right x (inf_neg hm)
    rw [top_squares (fun j => h j + (b : EReal) - m) j (hd _), top_div hN]
    have hs : Ideal.sqrt ((⊤ : EReal) + e) = ⊤ := by rw [EReal.top_add_coe]; rfl
    have hq : Ideal.div (h i + b - m) ⊤ = 0 := by
      rw [Ideal.div, if_neg (by simp), EReal.inv_top, mul_zero]
    rw [hs, hq, zero_mul, zero_add]
  rw [k1, k2]

/-- Both ways of normalising a channel agree, whatever its values, when the constant added to them and `γ` are real. -/
theorem same {ι : Type} [Fintype ι] (h : ι → EReal) (b γ N e : ℝ) (β : EReal) (hN : 0 < N) (hc : (Fintype.card ι : ℝ) = N) (he : 0 < e) (i : ι) :
    byMoments h γ β N e (h i) = byDistances (fun j => h j + b) γ β N e (h i + b) := by
  by_cases hj : ∃ j, Inf (h j)
  · obtain ⟨j, hj⟩ := hj
    exact same_inf h b γ N e β hN i j hj
  · have hr : ∀ j, ∃ r : ℝ, h j = r := fun j => real_of_not_inf fun k => hj ⟨j, k⟩
    choose g hg using hr
    obtain rfl : h = fun j => (g j : EReal) := funext hg
    exact same_real g b γ N e β hN hc he i

end Cert.Norm
-- ==== Proof.KernelValue.lean ====
/-
The kernel's two results as functions of its arguments: the score of every pixel, and the columns and rows of the
sixteen pixels that come first in the order "greater score, then smaller number".
-/
module

public import proofs.«01_k».proof.Proof.HostReads
public import proofs.«01_k».proof.Proof.Norm

@[expose] public section

set_option maxRecDepth 16384

noncomputable section

namespace Cert.KernelIdeal.Value

open Idealize.ShloMosaic Idealize.ShloMosaic.TcCoe Idealize.ShloMosaic.Tactic
open Cert.KernelIdeal.Gen Cert.Spec Cert.Select Cert.Norm

/-- The convolution of the two arguments at a pixel, without a bias. -/
def plain (X : FVec Ideal S2x96x512x512 .f32) (w : FVec Ideal S24x96x3x3 .f32) (o : Fin 24) (i : Fin 2 × Fin 512 × Fin 512) : EReal :=
  conv (fun ch y x => X (ix4 i.1 ch y x)) (fun ch ky kx => w (ix4 o ch ky kx)) i.2.1.val i.2.2.val

/-- Sums over two images, blocks of 32 rows and lanes are sums over images, rows and columns. -/
theorem sum_pixels (F : Fin 2 → ℕ → EReal) :
    (∑ b : Fin 2, ∑ k : Fin 16, ∑ p : Fin 16384, F b (16384 * k.val + p.val))
      = ∑ i : Fin 2 × Fin 512 × Fin 512, F i.1 (i.2.1.val * 512 + i.2.2.val) := by
  simp only [Fintype.sum_prod_type]
  refine Finset.sum_congr rfl fun b _ => ?_
  have h1 := Fin.sum_univ_tiles 16 16384 (by norm_num : 16 * 16384 = 262144) (fun p : Fin 262144 => F b p.val)
  have h2 := Fin.sum_univ_tiles 512 512 (by norm_num : 512 * 512 = 262144) (fun p : Fin 262144 => F b p.val)
  refine Eq.trans ?_ (h1.symm.trans h2)
  exact Finset.sum_congr rfl fun k _ => Finset.sum_congr rfl fun p _ => congrArg (F b) (by rw [Nat.mul_comm])

variable (m : (ℓ : Loc nD τ sig) → Buf (Elt Ideal) ℓ) (ρ : Dev nD → PrngReg)

/-- The convolution of the arguments in memory. -/
abbrev plainAt (c : Dev nD) (o : Fin 24) (i : Fin 2 × Fin 512 × Fin 512) : EReal :=
  plain (m ((c : Thread nD τ).loc main_arg0)) (m ((c : Thread nD τ).loc main_arg1)) o i

/-- The convolution kernel's values are the convolution of the arguments. -/
theorem convAt_eq (c : Dev nD) (b : Fin 2) (o : Fin 24) (y x : Fin 512) :
    convAt (V1 m ρ) c b o (y.val * 512 + x.val) = plainAt m c o (b, y, x) := by
  have hi : image (V1 m ρ) c b = fun ch y x => (m ((c : Thread nD τ).loc main_arg0) : FVec Ideal S2x96x512x512 .f32) (ix4 b ch y x) :=
    funext fun ch => funext fun y => funext fun x => image_read m ρ c b ch y x
  have hw : weights (V1 m ρ) c o = fun ch ky kx => (m ((c : Thread nD τ).loc main_arg1) : FVec Ideal S24x96x3x3 .f32) (ix4 o ch ky kx) :=
    funext fun ch => funext fun ky => funext fun kx => weights_read m ρ c o ch ky kx
  have h1 : (y.val * 512 + x.val) / 512 = y.val := by omega
  have h2 : (y.val * 512 + x.val) % 512 = x.val := by omega
  unfold convAt
  rw [hi, hw, h1, h2]
  rfl

/-- The channel sums are the sums over all pixels. -/
theorem sum1_eq (c : Dev nD) (o : Fin 24) : sum1 m ρ c o = ∑ i, plainAt m c o i :=
  (sum_pixels fun b p => convAt (V1 m ρ) c b o p).trans (Finset.sum_congr rfl fun i _ => convAt_eq m ρ c i.1 o i.2.1 i.2.2)

/-- The sums of squares likewise. -/
theorem sum2_eq (c : Dev nD) (o : Fin 24) : sum2 m ρ c o = ∑ i, plainAt m c o i * plainAt m c o i :=
  (sum_pixels fun b p => convAt (V1 m ρ) c b o p * convAt (V1 m ρ) c b o p).trans
    (Finset.sum_congr rfl fun i _ => by rw [convAt_eq m ρ c i.1 o i.2.1 i.2.2])

/-- The score of a pixel, of the arguments. -/
theorem score_eq (c : Dev nD) (b : Fin 2) (y x : Fin 512) :
    score (V3 m ρ) c b ⟨y.val * 512 + x.val, by omega⟩ = Ideal.logistic ((∑ o : Fin 24,
        max (byMoments (plainAt m c o) ((m ((c : Thread nD τ).loc main_arg3) : FVec Ideal S24 .f32) (ix1 o))
            ((m ((c : Thread nD τ).loc main_arg4) : FVec Ideal S24 .f32) (ix1 o)) (Ideal.ofBits .f32 0x49000000#32)
            (Ideal.ofBits .f32 0x3727C5AC#32) (plainAt m c o (b, y, x))) 0
          * (m ((c : Thread nD τ).loc main_arg5) : FVec Ideal S1x24x1x1 .f32) (ix4 0 o 0 0))
        + (m ((c : Thread nD τ).loc main_arg6) : FVec Ideal S1 .f32) (ix1 0)) := by
  unfold score scoreOf
  rw [bias_read]
  refine congrArg (fun z => Ideal.logistic (z + _)) (Finset.sum_congr rfl fun o _ => ?_)
  dsimp only
  rw [second_read, scale_read, shift_read, conv_read, convAt_eq m ρ c b o y x, sum1_eq, sum2_eq]
  rfl

/-- The coordinates the kernel writes are those of the first sixteen pixels in the order of their scores. -/
theorem coords_top (c : Dev nD) (b : Fin 2) : ∃ σ : Fin 16 → Fin 262144, Top (Before (score (V3 m ρ) c b) Fin.val) σ
    ∧ ∀ (n : Fin 16) (r : Fin 2), (W7 m ρ c main_v36 : FVec Ideal S2x16x2 .f32) (ix3 b n r)
      = Scalar.sitofp (F := Ideal) .f32 (if r = 0 then BitVec.ofNat 32 ((σ n).val % 512) else BitVec.ofNat 32 ((σ n).val / 512)) := by
  choose σ hσ hT using fun k => quarter_top (V3 m ρ) c b k
  obtain ⟨σ', h1, h2⟩ := merge_steps (score (V3 m ρ) c b) (fun p => logistic_nonneg _) σ
    (fun k => ⟨(hT k).inj, fun i j hij => (hT k).ord i j hij, fun i p hp => (hT k).dom i p hp⟩)
    (k2_pay3 (F := Ideal) (candIdx (V5 m ρ) c b)) (k2_pay2 (F := Ideal) (candVals (V5 m ρ) c b))
    (fun x => (values_read m ρ c b x.1 x.2).trans (hσ x.1 x.2).1)
    (fun x => (indices_read m ρ c b x.1 x.2).trans (hσ x.1 x.2).2)
  refine ⟨σ', h2, fun n r => ?_⟩
  rw [coords_read, out_at, h1, modWord_small _ (by omega), divWord_small _ (by omega)]

end Cert.KernelIdeal.Value
-- ==== Proof.RefConv.lean ====
/-
The reference's convolution read at an entry: the nine taps of the padded image, and the bias.
-/
module

public import proofs.«01_k».proof.Proof.Gen.ReferenceIdeal.Run
public import proofs.«01_k».proof.Proof.Spec
public import proofs.«01_k».proof.Proof.ChannelSums

@[expose] public section

set_option maxRecDepth 16384

noncomputable section

namespace Cert.ReferenceIdeal.Value

open Idealize.ShloMosaic Idealize.ShloMosaic.TcCoe Idealize.ShloMosaic.Tactic Idealize.ShloMosaic.StableHlo
open Cert.ReferenceIdeal Cert.ReferenceIdeal.Gen Cert.Spec

/-- A padded array at an entry. -/
theorem pad_at (A : FVec Ideal S2x96x512x512 .f32) (z : FVec Ideal S_ .f32) (hz : ∀ i, z i = 0) (b : Fin 2) (ch : Fin 96) (Y X : Fin 514) :
    pad S2x96x514x514 ![0, 0, 1, 1] ![0, 0, 1, 1] ![0, 0, 0, 0] A z pads_S2x96x512x512_S2x96x514x514_000_000_110_110 h_S_ (ix4 b ch Y X)
      = padAt (fun ch y x => A (ix4 b ch y x)) ch Y.val X.val := by
  unfold padAt
  pointwise
  by_cases hc : (1 ≤ Y.val ∧ Y.val ≤ 512) ∧ 1 ≤ X.val ∧ X.val ≤ 512
  · rw [dif_pos hc]
    exact dif_pos (by omega)
  · rw [dif_neg hc]
    exact (dif_neg (by omega)).trans (hz _)

/-- The padded image at an entry. -/
theorem padded_at (V : Valuation τ sig (Elt Ideal)) (b : Fin 2) (ch : Fin 96) (Y X : Fin 514) :
    (res_main_v0 V : FVec Ideal S2x96x514x514 .f32) (ix4 b ch Y X)
      = padAt (fun ch y x => (V (Proc.devRef .tc main_arg0) : FVec Ideal S2x96x512x512 .f32) (ix4 b ch y x)) ch Y.val X.val :=
  pad_at (V (Proc.devRef .tc main_arg0)) (sitofp .f32 (constantI S_ 32 0#32)) (fun i => by pointwise; simp [FloatOps.sitofp]) b ch Y X

/-- The convolution with its bias, read off the padded image. -/
theorem taps_at (V : Valuation τ sig (Elt Ideal)) (b : Fin 2) (o : Fin 24) (y x : Fin 512) :
    (res_main_v56 V : FVec Ideal S2x24x512x512 .f32) (ix4 b o y x)
      = conv (fun ch y x => (V (Proc.devRef .tc main_arg0) : FVec Ideal S2x96x512x512 .f32) (ix4 b ch y x))
          (fun ch ky kx => (V (Proc.devRef .tc main_arg1) : FVec Ideal S24x96x3x3 .f32) (ix4 o ch ky kx)) y.val x.val
        + (V (Proc.devRef .tc main_arg2) : FVec Ideal S24 .f32) (ix1 o) := by
  unfold res_main_v56
  have hP := fun ch Y X => padded_at V b ch Y X
  generalize (res_main_v0 V : FVec Ideal S2x96x514x514 .f32) = P at hP ⊢
  generalize (V (Proc.devRef .tc main_arg1) : FVec Ideal S24x96x3x3 .f32) = w
  generalize (V (Proc.devRef .tc main_arg2) : FVec Ideal S24 .f32) = β
  pointwise
  simp only [hP]
  unfold conv tap
  simp only [Nat.add_comm 1, Nat.add_comm 2, mul_comm (padAt _ _ _ _)]

end Cert.ReferenceIdeal.Value
-- ==== Proof.RefScore.lean ====
/-
The reference's score map read at a pixel: each channel normalised by the distances from its mean, the second layer,
the logistic.
-/
module

public import proofs.«01_k».proof.Proof.RefConv
public import proofs.«01_k».proof.Proof.Norm

@[expose] public section

set_option maxRecDepth 16384

noncomputable section

namespace Cert.ReferenceIdeal.Value

open Idealize.ShloMosaic Idealize.ShloMosaic.TcCoe Idealize.ShloMosaic.Tactic Idealize.ShloMosaic.StableHlo
open Cert.ReferenceIdeal Cert.ReferenceIdeal.Gen Cert.Spec Cert.Norm

/-- The number of pixels of a channel, both images together. -/
abbrev pixels : EReal := Ideal.ofBits .f32 0x49000000#32

/-- The constant added to the variance. -/
abbrev small : EReal := Ideal.ofBits .f32 0x3727C5AC#32

/-- There are 524288 pixels in a channel. -/
theorem pixels_eq : pixels = ((524288 : ℝ) : EReal) := by
  simp [Ideal.ofBits, Ideal.ieee, -EReal.coe_mul]; norm_num

/-- The constant added to the variance is a positive real number. -/
theorem small_eq : ∃ e : ℝ, 0 < e ∧ small = (e : EReal) := by
  refine ⟨_, ?_, by simp [Ideal.ofBits, Ideal.ieee, -EReal.coe_mul]; rfl⟩
  norm_num

/-- The sums over all pixels of each channel. -/
def channelSum (H : FVec Ideal S2x24x512x512 .f32) : FVec Ideal S24 .f32 :=
  Host.reduceAdd H (constant S_ .f32 0x00000000#32) reducesTo_S2x24x512x512_S24_d0_2_3 h_S_

/-- A channel's sum is the sum of its entries. -/
theorem channelSum_at (H : FVec Ideal S2x24x512x512 .f32) (o : Fin 24) :
    channelSum H (ix1 o) = ∑ i : Fin 2 × Fin 512 × Fin 512, H (ix4 i.1 o i.2.1 i.2.2) := by
  refine (Cert.ChannelSums.sum_around _ H _ o).trans ?_
  simp only [Fintype.sum_prod_type]
  pointwise

/-- The means. -/
def channelMean (s : FVec Ideal S24 .f32) : FVec Ideal S1x24x1x1 .f32 :=
  Host.divf (broadcastInDim S1x24x1x1 ![1] bcast_S24_S1x24x1x1_1 s) (broadcastInDim S1x24x1x1 ![] bcast_S_S1x24x1x1 (constant S_ .f32 0x49000000#32))

/-- A channel's mean is its sum over the number of pixels. -/
theorem channelMean_at (s : FVec Ideal S24 .f32) (o : Fin 24) : channelMean s (ix4 0 o 0 0) = Ideal.div (s (ix1 o)) pixels := by
  pointwise [channelMean]

/-- The distances from the means. -/
def distance (H : FVec Ideal S2x24x512x512 .f32) (M : FVec Ideal S1x24x1x1 .f32) : FVec Ideal S2x24x512x512 .f32 :=
  subf H (broadcastInDim S2x24x512x512 ![0, 1, 2, 3] bcast_S1x24x1x1_S2x24x512x512_0_1_2_3 M)

/-- A distance is an entry minus the mean of its channel. -/
theorem distance_at (H : FVec Ideal S2x24x512x512 .f32) (M : FVec Ideal S1x24x1x1 .f32) (b : Fin 2) (o : Fin 24) (y x : Fin 512) :
    distance H M (ix4 b o y x) = H (ix4 b o y x) - M (ix4 0 o 0 0) := by
  pointwise [distance]

/-- The variances, from the sums of the squared distances. -/
def variances (s : FVec Ideal S24 .f32) (n : FVec Ideal S_ .f32) : FVec Ideal S1x24x1x1 .f32 :=
  select (broadcastInDim S1x24x1x1 ![] bcast_S_S1x24x1x1 (cmpf .ogt n (constant S_ .f32 0x00000000#32)))
    (Host.divf (broadcastInDim S1x24x1x1 ![1] bcast_S24_S1x24x1x1_1 s) (broadcastInDim S1x24x1x1 ![] bcast_S_S1x24x1x1 n))
    (broadcastInDim S1x24x1x1 ![] bcast_S_S1x24x1x1 (id (constant S_ .f32 0x7FC00000#32)))

/-- A channel's variance is its sum of squares over the number of pixels, when the count is that number. -/
theorem variances_at (s : FVec Ideal S24 .f32) (n : FVec Ideal S_ .f32) (hn : ∀ i, n i = pixels) (o : Fin 24) :
    variances s n (ix4 0 o 0 0) = Ideal.div (s (ix1 o)) pixels := by
  obtain rfl : n = fun _ => pixels := funext hn
  have hp : 0 < pixels := by rw [pixels_eq]; exact EReal.coe_pos.mpr (by norm_num)
  pointwise [variances]
  exact if_pos hp

/-- The normalised channels. -/
def normalised (D : FVec Ideal S2x24x512x512 .f32) (v : FVec Ideal S1x24x1x1 .f32) (γ β : FVec Ideal S24 .f32) : FVec Ideal S2x24x512x512 .f32 :=
  addf (mulf (Host.divf D (broadcastInDim S2x24x512x512 ![0, 1, 2, 3] bcast_S1x24x1x1_S2x24x512x512_0_1_2_3
      (Host.sqrt (addf v (broadcastInDim S1x24x1x1 ![] bcast_S_S1x24x1x1 (constant S_ .f32 0x3727C5AC#32))))))
      (broadcastInDim S2x24x512x512 ![0, 1, 2, 3] bcast_S1x24x1x1_S2x24x512x512_0_1_2_3 (broadcastInDim S1x24x1x1 ![1] bcast_S24_S1x24x1x1_1 γ)))
    (broadcastInDim S2x24x512x512 ![0, 1, 2, 3] bcast_S1x24x1x1_S2x24x512x512_0_1_2_3 (broadcastInDim S1x24x1x1 ![1] bcast_S24_S1x24x1x1_1 β))

/-- A normalised entry: the distance over the root of the variance, scaled and shifted. -/
theorem normalised_at (D : FVec Ideal S2x24x512x512 .f32) (v : FVec Ideal S1x24x1x1 .f32) (γ β : FVec Ideal S24 .f32) (b : Fin 2) (o : Fin 24) (y x : Fin 512) :
    normalised D v γ β (ix4 b o y x) = Ideal.div (D (ix4 b o y x)) (Ideal.sqrt (v (ix4 0 o 0 0) + small)) * γ (ix1 o) + β (ix1 o) := by
  pointwise [normalised]

/-- The scores, from the normalised channels. -/
def scoreMap (Y : FVec Ideal S2x24x512x512 .f32) (w : FVec Ideal S1x24x1x1 .f32) (b : FVec Ideal S1 .f32) : FVec Ideal S2x1x512x512 .f32 :=
  Host.divf (broadcastInDim S2x1x512x512 ![] bcast_S_S2x1x512x512 (constant S_ .f32 0x3F800000#32))
    (addf (broadcastInDim S2x1x512x512 ![] bcast_S_S2x1x512x512 (constant S_ .f32 0x3F800000#32))
      (Host.exp (Host.negf (addf (transpose S2x1x512x512 [0, 3, 1, 2]
        (Host.dotGeneral dot_S2x24x512x512_S1x24_S2x512x512x1_1_1_023_0_n_n none
          (maximumf Y (broadcastInDim S2x24x512x512 ![] bcast_S_S2x24x512x512 (constant S_ .f32 0x00000000#32)))
          (shapeCast _ w shapeCasts_S1x24x1x1_S1x24)) transposes_S2x512x512x1_S2x1x512x512_0_3_1_2)
        (broadcastInDim S2x1x512x512 ![0, 1, 2, 3] bcast_S1x1x1x1_S2x1x512x512_0_1_2_3 (broadcastInDim S1x1x1x1 ![1] bcast_S1_S1x1x1x1_1 b))))))

/-- A score: the logistic function of the weighted sum of the positive parts over the channels, plus the bias. -/
theorem scoreMap_at (Y : FVec Ideal S2x24x512x512 .f32) (w : FVec Ideal S1x24x1x1 .f32) (β : FVec Ideal S1 .f32) (b : Fin 2) (y x : Fin 512) :
    scoreMap Y w β (ix4 b 0 y x) = Ideal.logistic ((∑ o : Fin 24, max (Y (ix4 b o y x)) 0 * w (ix4 0 o 0 0)) + β (ix1 0)) := by
  pointwise [scoreMap]
  rfl

/-- The score map of the reference, in its pieces. -/
def mapOf (V : Valuation τ sig (Elt Ideal)) : FVec Ideal S2x1x512x512 .f32 :=
  scoreMap (normalised (distance (res_main_v56 V) (channelMean (channelSum (res_main_v56 V))))
      (variances (channelSum (mulf (F := Ideal) (φ := .f32) (res_main_call1_v5 V) (res_main_call1_v5 V))) (res_main_call1_v8 V))
      (V (Proc.devRef .tc main_arg3)) (V (Proc.devRef .tc main_arg4)))
    (V (Proc.devRef .tc main_arg5)) (V (Proc.devRef .tc main_arg6))

/-- The values of a channel before it is normalised. -/
def channel (V : Valuation τ sig (Elt Ideal)) (o : Fin 24) (i : Fin 2 × Fin 512 × Fin 512) : EReal :=
  (res_main_v56 V : FVec Ideal S2x24x512x512 .f32) (ix4 i.1 o i.2.1 i.2.2)

/-- The number of pixels the reference computes for the variance. -/
theorem count_at (V : Valuation τ sig (Elt Ideal)) (i : S_.Idx) : (res_main_call1_v8 V : FVec Ideal S_ .f32) i = pixels := by
  unfold res_main_call1_v8
  pointwise
  simp [FloatOps.sitofp]

/-- The variances over a channel's values. -/
theorem variance_at (V : Valuation τ sig (Elt Ideal)) (o : Fin 24) :
    variances (channelSum (mulf (F := Ideal) (φ := .f32) (res_main_call1_v5 V) (res_main_call1_v5 V))) (res_main_call1_v8 V) (ix4 0 o 0 0)
      = Ideal.div (∑ i, (channel V o i - Ideal.div (∑ i, channel V o i) pixels) * (channel V o i - Ideal.div (∑ i, channel V o i) pixels)) pixels := by
  rw [variances_at _ _ (count_at V), channelSum_at]
  have hd : (res_main_call1_v5 V : FVec Ideal S2x24x512x512 .f32) = distance (res_main_v56 V) (channelMean (channelSum (res_main_v56 V))) := rfl
  refine congrArg (Ideal.div · pixels) (Finset.sum_congr rfl fun i _ => ?_)
  have hm : channelMean (channelSum (res_main_v56 V)) (ix4 0 o 0 0) = Ideal.div (∑ i, channel V o i) pixels := by
    rw [channelMean_at, channelSum_at]
    rfl
  have hi : distance (res_main_v56 V) (channelMean (channelSum (res_main_v56 V))) (ix4 i.1 o i.2.1 i.2.2)
      = channel V o i - Ideal.div (∑ i, channel V o i) pixels := by
    rw [distance_at, hm]
    rfl
  rw [← hi, hd]
  generalize distance _ _ = D
  pointwise

/-- The score map at a pixel. -/
theorem mapOf_at (V : Valuation τ sig (Elt Ideal)) (b : Fin 2) (y x : Fin 512) :
    mapOf V (ix4 b 0 y x) = Ideal.logistic ((∑ o : Fin 24,
        max (byDistances (channel V o)
          ((V (Proc.devRef .tc main_arg3) : FVec Ideal S24 .f32) (ix1 o)) ((V (Proc.devRef .tc main_arg4) : FVec Ideal S24 .f32) (ix1 o))
          pixels small (channel V o (b, y, x))) 0
          * (V (Proc.devRef .tc main_arg5) : FVec Ideal S1x24x1x1 .f32) (ix4 0 o 0 0))
        + (V (Proc.devRef .tc main_arg6) : FVec Ideal S1 .f32) (ix1 0)) := by
  unfold mapOf
  rw [scoreMap_at]
  refine congrArg (fun z => Ideal.logistic (z + _)) (Finset.sum_congr rfl fun o _ => congrArg (fun z => max z 0 * _) ?_)
  rw [normalised_at, variance_at, distance_at, channelMean_at, channelSum_at]
  rfl

/-- The reference flattens the score map before it selects from it. -/
theorem flat_eq (V : Valuation τ sig (Elt Ideal)) :
    (res_main_v88 V : FVec Ideal S2x262144 .f32) = shapeCast S2x262144 (mapOf V) shapeCasts_S2x1x512x512_S2x262144 := rfl

/-- The flattened score map at a pixel number. -/
theorem flat_at (V : Valuation τ sig (Elt Ideal)) (b : Fin 2) (p : Fin 262144) :
    (res_main_v88 V : FVec Ideal S2x262144 .f32) (ix2 b p) = mapOf V (ix4 b 0 ⟨p.val / 512, by omega⟩ ⟨p.val % 512, by omega⟩) := by
  rw [flat_eq]
  generalize mapOf V = S
  pointwise

end Cert.ReferenceIdeal.Value
-- ==== Proof.RefTop.lean ====
/-
The reference's selection: the sixteen greatest of a row, greater first and among equals the earlier, are the first
sixteen of the order the kernel selects by; and the column and row of a pixel number.
-/
module

public import proofs.«01_k».proof.Proof.Gen.ReferenceIdeal.Run
public import proofs.«01_k».proof.Proof.Select
public import proofs.«01_k».proof.Proof.Words
public import Idealize.ShloMosaic.Lib.SortPrefix

@[expose] public section

set_option maxRecDepth 16384

noncomputable section

namespace Cert.ReferenceIdeal.Value

open Idealize.ShloMosaic Idealize.ShloMosaic.TcCoe Idealize.ShloMosaic.Tactic Idealize.ShloMosaic.StableHlo
open Cert.ReferenceIdeal Cert.ReferenceIdeal.Gen Cert.Select Cert.Words

/-- A stable sort of an ascending list by a relation is the sort by any relation that agrees with it on a later
    element against an earlier one. -/
theorem stable_refined {N : ℕ} (R B : Fin N → Fin N → Bool) (h : ∀ a b, a < b → R b a = B b a) (l : List (Fin N))
    (hl : l.Pairwise (· < ·)) : stableSort R l = stableSort B l := by
  induction l with
  | nil => rfl
  | cons a l ih =>
    obtain ⟨ha, hl'⟩ := List.pairwise_cons.mp hl
    unfold stableSort
    rw [ih hl']
    exact insertBefore_congr R B a _ fun b hb => h a b (ha b ((perm_stableSort B l).mem_iff.mp hb))

/-- Sorting stably by a relation is sorting by the relation and then the position. -/
theorem sorted_refined {N : ℕ} (R B : Fin N → Fin N → Bool) (h : ∀ a b, a < b → R b a = B b a) : sortedFrom R = sortedFrom B := by
  funext k
  unfold sortedFrom
  have e : sortPositions N R = sortPositions N B := stable_refined R B h (List.finRange N) (List.pairwise_lt_finRange N)
  rw [List.get_of_eq e]
  rfl

/-- "Greater" on the extended reals, as a bit. -/
theorem greater_bit (a b : EReal) : ((FloatOps.cmpfTotal (F := Ideal) (φ := .f32) .gt a b) == 1#1) = decide (b < a) := by
  show (BitVec.ofBool (decide (b < a)) == 1#1) = _
  by_cases e : b < a <;> simp [e]

/-- The first sixteen of the order are what a stable sort by "greater" puts first. -/
theorem sorted_top {N : ℕ} (hN : 16 ≤ N) (v : Fin N → EReal) (τ : Fin 16 → Fin N) (hτ : Top (Before v Fin.val) τ) (n : Fin 16) :
    sortedFrom (fun k k' => (FloatOps.cmpfTotal (F := Ideal) (φ := .f32) .gt (v k) (v k')) == 1#1) (n.castLE hN) = τ n := by
  classical
  have hB : StrictTotalBefore fun k k' : Fin N => decide (v k' < v k) || (decide (v k = v k') && decide (k < k')) :=
    StrictTotalBefore.of_key_then_position (fun a b : EReal => decide (b < a)) v (fun a => by simp)
      (fun a b c h h' => by simp only [decide_eq_true_eq] at *; exact h'.trans h)
      (fun a b => by simp only [decide_eq_true_eq]; rcases lt_trichotomy a b with h | h | h <;> simp [h])
  have hno (p q : Fin N) (h : Before v Fin.val p q) : (decide (v p < v q) || (decide (v q = v p) && decide (q < p))) = false := by
    rcases h with h | ⟨h, h'⟩
    · simp [h.le, h.ne]
    · have : ¬ q < p := not_lt.mpr (Fin.le_def.mpr h'.le)
      simp [h, this]
  rw [sorted_refined _ _ (fun a b hab => ?_)]
  · exact hB.sortedFrom_eq_of_prefix hN τ hτ.inj (fun i j hij => hno _ _ (hτ.ord i j hij)) (fun i p hp => hno _ _ (hτ.dom i p hp)) n
  · show _ = (decide (v a < v b) || (decide (v b = v a) && decide (b < a)))
    rw [greater_bit]
    simp [not_lt.mpr hab.le]

/-- Along the second axis the second coordinate changes. -/
theorem along_at (b : Fin 2) (p k : Fin 262144) : (ix2 b p : S2x262144.Idx).along 1 k = ix2 b k := by
  funext a
  fin_cases a <;> rfl

/-- A top-k of a row by "greater", read at an entry. -/
theorem topk_at (S : FVec Ideal S2x262144 .f32) (b : Fin 2) (τ : Fin 16 → Fin 262144) (hτ : Top (Before (fun p => S (ix2 b p)) Fin.val) τ)
    (n : Fin 16) : (Host.topK S2x16 1 (FloatOps.cmpfTotal (F := Ideal) (φ := .f32) .gt) S sliceFits_S2x262144_S2x16).2 (ix2 b n) = BitVec.ofNat 32 (τ n).val := by
  have h := sorted_top (by decide : 16 ≤ 262144) (fun p => S (ix2 b p)) τ hτ n
  rw [← h]
  unfold Host.topK Host.sort2
  pointwise
  simp only [along_at]
  rfl

/-- The coordinates the reference makes of the selected pixel numbers. -/
def coordsOf (V : Valuation τ sig (Elt Ideal)) : FVec Ideal S2x16x2 .f32 :=
  sitofp .f32 (concatenate S2x16x2 2 [⟨S2x16x1, (broadcastInDim S2x16x1 ![0, 1] bcast_S2x16_S2x16x1_0_1 (select (andi (cmpi .ne (cmpi .slt (res_main_call3_v4 V) (broadcastInDim S2x16 ![] bcast_S_S2x16 (constantI S_ 32 0#32))) (broadcastInDim S2x16 ![] bcast_S_S2x16 (cmpi .slt (res_main_call3_v2 V) (constantI S_ 32 0#32)))) (cmpi .ne (res_main_call3_v4 V) (broadcastInDim S2x16 ![] bcast_S_S2x16 (constantI S_ 32 0#32)))) (addi (res_main_call3_v4 V) (broadcastInDim S2x16 ![] bcast_S_S2x16 (res_main_call3_v2 V))) (res_main_call3_v4 V)))⟩, ⟨S2x16x1, (broadcastInDim S2x16x1 ![0, 1] bcast_S2x16_S2x16x1_0_1 (select (andi (cmpi .ne (signi (res_main_indices V)) (broadcastInDim S2x16 ![] bcast_S_S2x16 (signi (res_main_call4_v0 V)))) (cmpi .ne (Host.remsi (res_main_indices V) (broadcastInDim S2x16 ![] bcast_S_S2x16 (res_main_call4_v0 V))) (broadcastInDim S2x16 ![] bcast_S_S2x16 (constantI S_ 32 0#32)))) (subi (res_main_call4_v2 V) (broadcastInDim S2x16 ![] bcast_S_S2x16 (constantI S_ 32 1#32))) (res_main_call4_v2 V)))⟩] concatenates_S2x16x1_S2x16x1_S2x16x2_d2)

/-- The coordinates of a selected pixel: its column and its row. -/
theorem coordsOf_at (V : Valuation τ sig (Elt Ideal)) (b : Fin 2) (n : Fin 16) (r : Fin 2) (p : ℕ) (hp : p < 2 ^ 31)
    (hI : (res_main_indices V : IVec S2x16 32) (ix2 b n) = BitVec.ofNat 32 p) :
    coordsOf V (ix3 b n r) = Scalar.sitofp (F := Ideal) .f32 (if r = 0 then BitVec.ofNat 32 (p % 512) else BitVec.ofNat 32 (p / 512)) := by
  unfold coordsOf res_main_call3_v4 res_main_call3_v2 res_main_call3_v0 res_main_call4_v2 res_main_call4_v0
  generalize (res_main_indices V : IVec S2x16 32) = I at hI ⊢
  pointwise
  have e1 : id (constantI S_ 32 512#32) ix0 = 512#32 := rfl
  have e2 : Scalar.select (IntOp.cmpi .eq 512#32 0#32) 1#32 512#32 = 512#32 := rfl
  have e3 : IntOp.cmpi .slt 512#32 0#32 = 0#1 := rfl
  have e4 : IntOp.cmpi .ne 0#1 0#1 = 0#1 := rfl
  have e5 (c : BitVec 1) : IntOp.andi 0#1 c = 0#1 := by revert c; decide
  have e6 (c : BitVec 1) : IntOp.andi c 0#1 = 0#1 := by revert c; decide
  have e7 (x y : BitVec 32) : Scalar.select 0#1 x y = y := rfl
  have hr := rem512 .host p hp
  have hq := div512 .host p hp
  have hs := slt_zero (p % 512) (by omega)
  have hsign : IntOp.andi (IntOp.cmpi .ne (if BitVec.ofNat 32 p = 0 then 0 else if (BitVec.ofNat 32 p).msb = true then -1 else 1 : BitVec 32)
      (if (512#32 : BitVec 32) = 0 then 0 else if BitVec.msb 512#32 = true then -1 else 1 : BitVec 32))
      (IntOp.cmpi .ne (BitVec.ofNat 32 (p % 512)) 0#32) = 0#1 := by
    rcases Nat.eq_zero_or_pos p with rfl | h0
    · rfl
    · have hz : ¬ BitVec.ofNat 32 p = 0 := fun h => by
        have := congrArg BitVec.toNat h
        rw [toNat_small p hp] at this
        exact h0.ne' this
      have hm : ¬ (BitVec.ofNat 32 p).msb = true := by
        rw [Bool.not_eq_true, BitVec.msb_eq_false_iff_two_mul_lt, toNat_small p hp]; omega
      rw [if_neg hz, if_neg hm]
      exact e5 _
  simp only [hI, e1, e2, e3, hr, hq, hs, e4, e5, e7, hsign]
  fin_cases r <;> rfl

end Cert.ReferenceIdeal.Value
-- ==== Proof.Equation.lean ====
/-
The kernel's results and the reference's are the same, when the two are given the same arguments and the entries of the
bias and of the scale are real numbers.
-/
module

public import proofs.«01_k».proof.Proof.KernelValue
public import proofs.«01_k».proof.Proof.RefScore
public import proofs.«01_k».proof.Proof.RefTop

@[expose] public section

set_option maxRecDepth 16384

noncomputable section

namespace Cert.Equation

open Idealize.ShloMosaic Idealize.ShloMosaic.TcCoe Idealize.ShloMosaic.Tactic Idealize.ShloMosaic.StableHlo
open Cert.Spec Cert.Select Cert.Norm
open Cert.KernelIdeal.Value (plain plainAt)
open Cert.KernelIdeal.Gen (V3 W7)

variable (m : (ℓ : Loc Cert.KernelIdeal.nD Cert.KernelIdeal.τ Cert.KernelIdeal.sig) → Buf (Elt Ideal) ℓ) (ρ : Dev Cert.KernelIdeal.nD → PrngReg)
  (V : Valuation Cert.ReferenceIdeal.τ Cert.ReferenceIdeal.sig (Elt Ideal))

/-- The reference's arguments are the kernel's on a device, and the entries of its bias and scale are real numbers. -/
structure Agree (c : Dev Cert.KernelIdeal.nD) : Prop where
  a0 : (V (Proc.devRef .tc Cert.ReferenceIdeal.main_arg0) : FVec Ideal Cert.KernelIdeal.S2x96x512x512 .f32)
    = m ((c.tc : Thread Cert.KernelIdeal.nD Cert.KernelIdeal.τ).loc Cert.KernelIdeal.main_arg0)
  a1 : (V (Proc.devRef .tc Cert.ReferenceIdeal.main_arg1) : FVec Ideal Cert.KernelIdeal.S24x96x3x3 .f32)
    = m ((c.tc : Thread Cert.KernelIdeal.nD Cert.KernelIdeal.τ).loc Cert.KernelIdeal.main_arg1)
  a3 : (V (Proc.devRef .tc Cert.ReferenceIdeal.main_arg3) : FVec Ideal Cert.KernelIdeal.S24 .f32)
    = m ((c.tc : Thread Cert.KernelIdeal.nD Cert.KernelIdeal.τ).loc Cert.KernelIdeal.main_arg3)
  a4 : (V (Proc.devRef .tc Cert.ReferenceIdeal.main_arg4) : FVec Ideal Cert.KernelIdeal.S24 .f32)
    = m ((c.tc : Thread Cert.KernelIdeal.nD Cert.KernelIdeal.τ).loc Cert.KernelIdeal.main_arg4)
  a5 : (V (Proc.devRef .tc Cert.ReferenceIdeal.main_arg5) : FVec Ideal Cert.KernelIdeal.S1x24x1x1 .f32)
    = m ((c.tc : Thread Cert.KernelIdeal.nD Cert.KernelIdeal.τ).loc Cert.KernelIdeal.main_arg5)
  a6 : (V (Proc.devRef .tc Cert.ReferenceIdeal.main_arg6) : FVec Ideal Cert.KernelIdeal.S1 .f32)
    = m ((c.tc : Thread Cert.KernelIdeal.nD Cert.KernelIdeal.τ).loc Cert.KernelIdeal.main_arg6)
  bias : ∀ o : Fin 24, ∃ b : ℝ, (V (Proc.devRef .tc Cert.ReferenceIdeal.main_arg2) : FVec Ideal Cert.KernelIdeal.S24 .f32) (ix1 o) = (b : EReal)
  scale : ∀ o : Fin 24, ∃ g : ℝ, (m ((c.tc : Thread Cert.KernelIdeal.nD Cert.KernelIdeal.τ).loc Cert.KernelIdeal.main_arg3) : FVec Ideal Cert.KernelIdeal.S24 .f32) (ix1 o) = (g : EReal)

/-- The reference's channels are the kernel's, with the bias added. -/
theorem channel_eq (c : Dev Cert.KernelIdeal.nD) (hA : Agree m V c) (o : Fin 24) (b : ℝ)
    (hb : (V (Proc.devRef .tc Cert.ReferenceIdeal.main_arg2) : FVec Ideal Cert.KernelIdeal.S24 .f32) (ix1 o) = (b : EReal)) :
    Cert.ReferenceIdeal.Value.channel V o = fun i => plainAt m c o i + (b : EReal) := by
  funext i
  refine (Cert.ReferenceIdeal.Value.taps_at V i.1 o i.2.1 i.2.2).trans ?_
  refine congrArg₂ (fun x y : EReal => x + y) ?_ hb
  unfold plainAt plain
  rw [← hA.a0, ← hA.a1]

/-- One channel's normalised value at a pixel: by moments of the values, and by distances of the values with the bias. -/
theorem norm_eq (c : Dev Cert.KernelIdeal.nD) (hA : Agree m V c) (o : Fin 24) (i : Fin 2 × Fin 512 × Fin 512) :
    byMoments (plainAt m c o) ((m ((c.tc : Thread Cert.KernelIdeal.nD Cert.KernelIdeal.τ).loc Cert.KernelIdeal.main_arg3) : FVec Ideal Cert.KernelIdeal.S24 .f32) (ix1 o))
        ((m ((c.tc : Thread Cert.KernelIdeal.nD Cert.KernelIdeal.τ).loc Cert.KernelIdeal.main_arg4) : FVec Ideal Cert.KernelIdeal.S24 .f32) (ix1 o))
        (Ideal.ofBits .f32 0x49000000#32) (Ideal.ofBits .f32 0x3727C5AC#32) (plainAt m c o i)
      = byDistances (Cert.ReferenceIdeal.Value.channel V o)
          ((m ((c.tc : Thread Cert.KernelIdeal.nD Cert.KernelIdeal.τ).loc Cert.KernelIdeal.main_arg3) : FVec Ideal Cert.KernelIdeal.S24 .f32) (ix1 o))
          ((m ((c.tc : Thread Cert.KernelIdeal.nD Cert.KernelIdeal.τ).loc Cert.KernelIdeal.main_arg4) : FVec Ideal Cert.KernelIdeal.S24 .f32) (ix1 o))
          Cert.ReferenceIdeal.Value.pixels Cert.ReferenceIdeal.Value.small (Cert.ReferenceIdeal.Value.channel V o i) := by
  obtain ⟨b, hb⟩ := hA.bias o
  obtain ⟨g, hg⟩ := hA.scale o
  obtain ⟨e, he, hs⟩ := Cert.ReferenceIdeal.Value.small_eq
  rw [channel_eq m V c hA o b hb, hg]
  change byMoments _ _ _ Cert.ReferenceIdeal.Value.pixels Cert.ReferenceIdeal.Value.small _ = _
  rw [Cert.ReferenceIdeal.Value.pixels_eq, hs]
  exact same (plainAt m c o) b g 524288 e _ (by norm_num) (by simp) he i

/-- The scores are the same at every pixel. -/
theorem score_same (c : Dev Cert.KernelIdeal.nD) (hA : Agree m V c) (b : Fin 2) (y x : Fin 512) :
    Cert.KernelIdeal.Value.score (V3 m ρ) c b ⟨y.val * 512 + x.val, by omega⟩ = Cert.ReferenceIdeal.Value.mapOf V (ix4 b 0 y x) := by
  refine (Cert.KernelIdeal.Value.score_eq m ρ c b y x).trans (Eq.trans ?_ (Cert.ReferenceIdeal.Value.mapOf_at V b y x).symm)
  rw [hA.a3, hA.a4, hA.a5, hA.a6]
  refine congrArg (fun z => Ideal.logistic (z + _)) (Finset.sum_congr rfl fun o _ => ?_)
  exact congrArg (fun z : EReal => max z 0 * _) (norm_eq m V c hA o (b, y, x))

/-- The first results are the same. -/
theorem map_same (c : Dev Cert.KernelIdeal.nD) (hA : Agree m V c) :
    Cert.ReferenceIdeal.Value.mapOf V = (W7 m ρ c Cert.KernelIdeal.main_v37 : FVec Ideal Cert.KernelIdeal.S2x1x512x512 .f32) := by
  funext i
  obtain ⟨b, z, y, x, rfl⟩ : ∃ (b : Fin 2) (z : Fin 1) (y x : Fin 512), i = ix4 b z y x := ⟨i 0, i 1, i 2, i 3, eq_ix4 i⟩
  obtain rfl : z = 0 := Subsingleton.elim _ _
  exact ((Cert.KernelIdeal.Value.map_read m ρ c b y x).trans (score_same m ρ V c hA b y x)).symm

/-- The second results are the same. -/
theorem coords_same (c : Dev Cert.KernelIdeal.nD) (hA : Agree m V c) :
    Cert.ReferenceIdeal.Value.coordsOf V = (W7 m ρ c Cert.KernelIdeal.main_v36 : FVec Ideal Cert.KernelIdeal.S2x16x2 .f32) := by
  funext i
  obtain ⟨b, n, r, rfl⟩ : ∃ (b : Fin 2) (n : Fin 16) (r : Fin 2), i = ix3 b n r := ⟨i 0, i 1, i 2, eq_ix3 i⟩
  obtain ⟨σ, hσ, hW⟩ := Cert.KernelIdeal.Value.coords_top m ρ c b
  have hS : (fun p => (Cert.ReferenceIdeal.Value.res_main_v88 V : FVec Ideal Cert.ReferenceIdeal.S2x262144 .f32) (ix2 b p)) = Cert.KernelIdeal.Value.score (V3 m ρ) c b := by
    funext p
    refine (Cert.ReferenceIdeal.Value.flat_at V b p).trans ((score_same m ρ V c hA b ⟨p.val / 512, by omega⟩ ⟨p.val % 512, by omega⟩).symm.trans ?_)
    exact congrArg (Cert.KernelIdeal.Value.score (V3 m ρ) c b) (Fin.ext (by show p.val / 512 * 512 + p.val % 512 = p.val; omega))
  rw [← hS] at hσ
  exact (Cert.ReferenceIdeal.Value.coordsOf_at V b n r (σ n).val (by omega)
    (Cert.ReferenceIdeal.Value.topk_at (Cert.ReferenceIdeal.Value.res_main_v88 V) b σ hσ n)).trans (hW n r).symm

end Cert.Equation
-- ==== Proof.Finite.lean ====
/-
What the precondition says: the entries of the bias and of the scale are real numbers.
-/
module

public import proofs.«01_k».proof.Pre_shift_and_scale_finite
public import Idealize.ShloMosaic.Lib.Pipeline.ValueKit

@[expose] public section

noncomputable section

namespace Cert.Pre_shift_and_scale_finite

open Idealize.ShloMosaic Idealize.ShloMosaic.TcCoe Idealize.ShloMosaic.Tactic

/-- The side condition of the precondition's printed text. -/
theorem facts : Facts := ⟨by decide⟩

/-- If two bits are together one, each is. -/
theorem both_ones (a b : BitVec 1) (h : IntOp.andi a b = 1#1) : a = 1#1 ∧ b = 1#1 := by
  revert a b; decide

/-- An extended real whose absolute value is below infinity is a real number. -/
theorem real_of_abs_lt (x : EReal) (h : max x (-x) < ⊤) : ∃ r : ℝ, x = r := by
  induction x using EReal.rec with
  | bot => simp at h
  | coe r => exact ⟨r, rfl⟩
  | top => simp at h

/-- Under the precondition every entry of the bias and of the scale is a real number. -/
theorem reals [Facts] (x0 : FVec Ideal S2x96x512x512 .f32) (x1 : FVec Ideal S24x96x3x3 .f32) (x2 x3 x4 : FVec Ideal S24 .f32)
    (x5 : FVec Ideal S1x24x1x1 .f32) (x6 : FVec Ideal S1 .f32) (h : fn x0 x1 x2 x3 x4 x5 x6 = fun _ => 1#1) (o : Fin 24) :
    (∃ r : ℝ, x2 (ix1 o) = r) ∧ (∃ r : ℝ, x3 (ix1 o) = r) := by
  have h' := congrFun h (ix1 o)
  unfold fn at h'
  dsimp only at h'
  have e2 : ∀ x : FVec Ideal S24 .f32, cmpf .olt (Host.absf x) (broadcastInDim S24 ![] Facts.bcast_S_S24 (constant S_ .f32 0x7F800000#32)) (ix1 o) = 1#1
      → ∃ r : ℝ, x (ix1 o) = r := by
    intro x
    pointwise
    intro hx
    have hlt : max (x (ix1 o) : EReal) (-(x (ix1 o) : EReal)) < Ideal.ofBits .f32 0x7F800000#32 := by
      by_contra hn
      exact absurd hx (by rw [decide_eq_false (by exact hn)]; decide)
    exact real_of_abs_lt _ (lt_of_lt_of_le hlt le_top)
  obtain ⟨ha, hb⟩ := both_ones _ _ h'
  exact ⟨e2 x2 ha, e2 x3 hb⟩

end Cert.Pre_shift_and_scale_finite
-- ==== Proof.lean ====
/-
The certificate: the frames of the three programs, and that the kernel and the reference compute the same two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Equation
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem Cert.Kernel

/-- The reference's frame: its generated run read at the arguments; the program declares no semaphore. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩)
    (Cert.ReferenceIdeal.Value.run m ρ)

/-- Under the precondition, and given the same arguments, the two programs agree on a device in the sense of `Cert.Equation`. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hP : Cert.Pre_KernelIdeal_shift_and_scale_finite (hPre_shift_and_scale_finite := Cert.Pre_shift_and_scale_finite.facts) m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Equation.Agree m (StableHlo.launchContents m' c) c := by
  obtain ⟨h0, h1, h2, h3, h4, h5, h6⟩ := h
  have := Cert.Pre_shift_and_scale_finite.facts
  have hr := fun o => Cert.Pre_shift_and_scale_finite.reals _ _ _ _ _ _ _ (hP c) o
  exact ⟨h0, h1, h3, h4, h5, h6, fun o => (hr o).1.imp fun r hb => (congrFun h2 (ix1 o)).trans hb, fun o => (hr o).2⟩

/-- The kernel and the reference, given the same arguments, compute the same two results. -/
theorem algebraic : Cert.algebraic_KernelIdeal_ReferenceIdeal_pre_shift_and_scale_finite (hKernelIdeal := Cert.KernelIdeal.Gen.facts)
    (hReferenceIdeal := Cert.ReferenceIdeal.Gen.facts) (hPre_shift_and_scale_finite := Cert.Pre_shift_and_scale_finite.facts) := by
  intro m g m' g' hP hA
  refine ⟨fun c => Cert.KernelIdeal.Gen.W7 m g c (Proc.devRef .tc Cert.KernelIdeal.main_v37), fun c => Cert.KernelIdeal.Gen.W7 m g c (Proc.devRef .tc Cert.KernelIdeal.main_v36),
    Cert.KernelIdeal.Value.run m g, (θ_run _ _ _).mono (fun r h c => ?_) (Cert.ReferenceIdeal.Value.run m' g')⟩
  have e := agree m m' hP c (hA c)
  exact ⟨(h c).1.trans (Cert.Equation.map_same m g (StableHlo.launchContents m' c) c e),
    (h c).2.1.trans (Cert.Equation.coords_same m g (StableHlo.launchContents m' c) c e), (h c).2.2⟩

/-- The certificate. -/
theorem claim : Cert.Claim := ⟨Cert.Kernel.Gen.facts, Cert.KernelIdeal.Gen.facts, Cert.ReferenceIdeal.Gen.facts, Cert.Pre_shift_and_scale_finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
